-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v200) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S524288x1 : Shape := ⟨2, ![524288, 1]⟩
abbrev S524288x8 : Shape := ⟨2, ![524288, 8]⟩
abbrev S8x64 : Shape := ⟨2, ![8, 64]⟩
abbrev S64 : Shape := ⟨1, ![64]⟩
abbrev S64x64 : Shape := ⟨2, ![64, 64]⟩
abbrev S64x95 : Shape := ⟨2, ![64, 95]⟩
abbrev S95 : Shape := ⟨1, ![95]⟩
abbrev S_ : Shape := ⟨0, ![]⟩

class Facts : Prop where
  bcast_S_S524288x1 : S_.BroadcastsInDim S524288x1 (![] : Fin 0 → Fin S524288x1.rank)
  bcast_S_S524288x8 : S_.BroadcastsInDim S524288x8 (![] : Fin 0 → Fin S524288x8.rank)
  bcast_S_S8x64 : S_.BroadcastsInDim S8x64 (![] : Fin 0 → Fin S8x64.rank)
  bcast_S_S64 : S_.BroadcastsInDim S64 (![] : Fin 0 → Fin S64.rank)
  bcast_S_S64x64 : S_.BroadcastsInDim S64x64 (![] : Fin 0 → Fin S64x64.rank)
  bcast_S_S64x95 : S_.BroadcastsInDim S64x95 (![] : Fin 0 → Fin S64x95.rank)
  bcast_S_S95 : S_.BroadcastsInDim S95 (![] : Fin 0 → Fin S95.rank)

variable [Facts]

def fn_part1 {F : FTy → Type} [FloatOps F] (main_arg7 : FVec F S95 .f32) (main_v1 : IVec S524288x1 1) (main_v4 : IVec S524288x8 1) (main_v7 : IVec S8x64 1) (main_v10 : IVec S64 1) (main_v13 : IVec S64x64 1) (main_v16 : IVec S64 1) (main_v17 : FVec F S64x95 .f32) : IVec S524288x1 1 × IVec S524288x8 1 × IVec S8x64 1 × IVec S64 1 × IVec S64x64 1 × IVec S64 1 × IVec S64x95 1 × IVec S95 1 :=
  let main_cst_5 : FVec F S_ .f32 := constant S_ .f32 0x7F800000#32
  let main_v18 : FVec F S64x95 .f32 := broadcastInDim S64x95 ![] bcast_S_S64x95 main_cst_5
  let main_v19 : IVec S64x95 1 := cmpf .olt main_v17 main_v18
  let main_v20 : FVec F S95 .f32 := Host.absf main_arg7
  let main_cst_6 : FVec F S_ .f32 := constant S_ .f32 0x7F800000#32
  let main_v21 : FVec F S95 .f32 := broadcastInDim S95 ![] bcast_S_S95 main_cst_6
  let main_v22 : IVec S95 1 := cmpf .olt main_v20 main_v21
  (main_v1, main_v4, main_v7, main_v10, main_v13, main_v16, main_v19, main_v22)

def fn {F : FTy → Type} [FloatOps F] (main_arg0 : FVec F S524288x1 .f32) (main_arg1 : FVec F S524288x8 .f32) (main_arg2 : FVec F S8x64 .f32) (main_arg3 : FVec F S64 .f32) (main_arg4 : FVec F S64x64 .f32) (main_arg5 : FVec F S64 .f32) (main_arg6 : FVec F S64x95 .f32) (main_arg7 : FVec F S95 .f32) : IVec S524288x1 1 × IVec S524288x8 1 × IVec S8x64 1 × IVec S64 1 × IVec S64x64 1 × IVec S64 1 × IVec S64x95 1 × IVec S95 1 :=
  let main_cst : FVec F S_ .f32 := constant S_ .f32 0x3F800000#32
  let main_v0 : FVec F S524288x1 .f32 := broadcastInDim S524288x1 ![] bcast_S_S524288x1 main_cst
  let main_v1 : IVec S524288x1 1 := cmpf .ole main_arg0 main_v0
  let main_v2 : FVec F S524288x8 .f32 := Host.absf main_arg1
  let main_cst_0 : FVec F S_ .f32 := constant S_ .f32 0x7F800000#32
  let main_v3 : FVec F S524288x8 .f32 := broadcastInDim S524288x8 ![] bcast_S_S524288x8 main_cst_0
  let main_v4 : IVec S524288x8 1 := cmpf .olt main_v2 main_v3
  let main_v5 : FVec F S8x64 .f32 := Host.absf main_arg2
  let main_cst_1 : FVec F S_ .f32 := constant S_ .f32 0x7F800000#32
  let main_v6 : FVec F S8x64 .f32 := broadcastInDim S8x64 ![] bcast_S_S8x64 main_cst_1
  let main_v7 : IVec S8x64 1 := cmpf .olt main_v5 main_v6
  let main_v8 : FVec F S64 .f32 := Host.absf main_arg3
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_v11 : FVec F S64x64 .f32 := Host.absf main_arg4
  let main_cst_3 : FVec F S_ .f32 := constant S_ .f32 0x7F800000#32
  let main_v12 : FVec F S64x64 .f32 := broadcastInDim S64x64 ![] bcast_S_S64x64 main_cst_3
  let main_v13 : IVec S64x64 1 := cmpf .olt main_v11 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  let main_v17 : FVec F S64x95 .f32 := Host.absf main_arg6
  fn_part1 (F := F) main_arg7 main_v1 main_v4 main_v7 main_v10 main_v13 main_v16 main_v17
-- ==== Kernel.lean ====
abbrev S524288x1 : Shape := ⟨2, ![524288, 1]⟩
abbrev S524288x8 : Shape := ⟨2, ![524288, 8]⟩
abbrev S8x64 : Shape := ⟨2, ![8, 64]⟩
abbrev S64 : Shape := ⟨1, ![64]⟩
abbrev S64x64 : Shape := ⟨2, ![64, 64]⟩
abbrev S64x95 : Shape := ⟨2, ![64, 95]⟩
abbrev S95 : Shape := ⟨1, ![95]⟩
abbrev S_ : Shape := ⟨0, ![]⟩
abbrev S64x1 : Shape := ⟨2, ![64, 1]⟩
abbrev S64x96 : Shape := ⟨2, ![64, 96]⟩
abbrev S1 : Shape := ⟨1, ![1]⟩
abbrev S96 : Shape := ⟨1, ![96]⟩
abbrev S72x9 : Shape := ⟨2, ![72, 9]⟩
abbrev S64x8 : Shape := ⟨2, ![64, 8]⟩
abbrev S2 : Shape := ⟨1, ![2]⟩
abbrev S72x72 : Shape := ⟨2, ![72, 72]⟩
abbrev S96x72 : Shape := ⟨2, ![96, 72]⟩
abbrev S96x64 : Shape := ⟨2, ![96, 64]⟩
abbrev S8x524288 : Shape := ⟨2, ![8, 524288]⟩
abbrev S1x524288 : Shape := ⟨2, ![1, 524288]⟩
abbrev S1x32768 : Shape := ⟨2, ![1, 32768]⟩
abbrev S8x32768 : Shape := ⟨2, ![8, 32768]⟩
abbrev S9x32768 : Shape := ⟨2, ![9, 32768]⟩
abbrev S72x32768 : Shape := ⟨2, ![72, 32768]⟩
abbrev S96x32768 : Shape := ⟨2, ![96, 32768]⟩
abbrev S32x32768 : Shape := ⟨2, ![32, 32768]⟩
abbrev S32768 : Shape := ⟨1, ![32768]⟩
abbrev S32x32 : Shape := ⟨2, ![32, 32]⟩
abbrev S31x32768 : Shape := ⟨2, ![31, 32768]⟩
abbrev S4x8x32768 : Shape := ⟨3, ![4, 8, 32768]⟩
abbrev S112x32768 : Shape := ⟨2, ![112, 32768]⟩
abbrev S8x112 : Shape := ⟨2, ![8, 112]⟩

abbrev nBuf : Space → Nat
  | .hbm => 75
  | .vmem => 11
  | .smem => 0
  | _ => 0

abbrev bufTy : (tb : Table) → Fin (tcTables nBuf tb) → BufTy
  | .hbm, ⟨0, _⟩ => ⟨S524288x1, .f32⟩
  | .hbm, ⟨1, _⟩ => ⟨S524288x8, .f32⟩
  | .hbm, ⟨2, _⟩ => ⟨S8x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x95, .f32⟩
  | .hbm, ⟨7, _⟩ => ⟨S95, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64x1, .f32⟩
  | .hbm, ⟨15, _⟩ => ⟨S64x96, .f32⟩
  | .hbm, ⟨16, _⟩ => ⟨S1, .f32⟩
  | .hbm, ⟨17, _⟩ => ⟨S96, .f32⟩
  | .hbm, ⟨18, _⟩ => ⟨S_, .f32⟩
  | .hbm, ⟨19, _⟩ => ⟨S72x9, .f32⟩
  | .hbm, ⟨20, _⟩ => ⟨S64x8, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S72x9, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S72x9, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S_, .f32⟩
  | .hbm, ⟨39, _⟩ => ⟨S72x9, .f32⟩
  | .hbm, ⟨40, _⟩ => ⟨S_, .f32⟩
  | .hbm, ⟨41, _⟩ => ⟨S72x72, .f32⟩
  | .hbm, ⟨42, _⟩ => ⟨S64x64, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S72x72, .f32⟩
  | .hbm, ⟨49, _⟩ => ⟨S_, .i32⟩
  | .hbm, ⟨50, _⟩ => ⟨S1, .i32⟩
  | .hbm, ⟨51, _⟩ => ⟨S_, .i32⟩
  | .hbm, ⟨52, _⟩ => ⟨S1, .i32⟩
  | .hbm, ⟨53, _⟩ => ⟨S2, .i32⟩
  | .hbm, ⟨54, _⟩ => ⟨S72x72, .f32⟩
  | .hbm, ⟨55, _⟩ => ⟨S_, .i32⟩
  | .hbm, ⟨56, _⟩ => ⟨S1, .i32⟩
  | .hbm, ⟨57, _⟩ => ⟨S_, .i32⟩
  | .hbm, ⟨58, _⟩ => ⟨S1, .i32⟩
  | .hbm, ⟨59, _⟩ => ⟨S2, .i32⟩
  | .hbm, ⟨60, _⟩ => ⟨S_, .f32⟩
  | .hbm, ⟨61, _⟩ => ⟨S72x72, .f32⟩
  | .hbm, ⟨62, _⟩ => ⟨S_, .f32⟩
  | .hbm, ⟨63, _⟩ => ⟨S96x72, .f32⟩
  | .hbm, ⟨64, _⟩ => ⟨S96x64, .f32⟩
  | .hbm, ⟨65, _⟩ => ⟨S_, .i32⟩
  | .hbm, ⟨66, _⟩ => ⟨S1, .i32⟩
  | .hbm, ⟨67, _⟩ => ⟨S96x72, .f32⟩
  | .hbm, ⟨68, _⟩ => ⟨S_, .i32⟩
  | .hbm, ⟨69, _⟩ => ⟨S1, .i32⟩
  | .hbm, ⟨70, _⟩ => ⟨S96x72, .f32⟩
  | .hbm, ⟨71, _⟩ => ⟨S8x524288, .f32⟩
  | .hbm, ⟨72, _⟩ => ⟨S1x524288, .f32⟩
  | .hbm, ⟨73, _⟩ => ⟨S1x524288, .f32⟩
  | .hbm, ⟨74, _⟩ => ⟨S1x524288, .f32⟩
  | .local _ .vmem, ⟨0, _⟩ => ⟨S1x32768, .f32⟩
  | .local _ .vmem, ⟨1, _⟩ => ⟨S1x32768, .f32⟩
  | .local _ .vmem, ⟨2, _⟩ => ⟨S8x32768, .f32⟩
  | .local _ .vmem, ⟨3, _⟩ => ⟨S8x32768, .f32⟩
  | .local _ .vmem, ⟨4, _⟩ => ⟨S72x9, .f32⟩
  | .local _ .vmem, ⟨5, _⟩ => ⟨S72x72, .f32⟩
  | .local _ .vmem, ⟨6, _⟩ => ⟨S96x72, .f32⟩
  | .local _ .vmem, ⟨7, _⟩ => ⟨S1x32768, .f32⟩
  | .local _ .vmem, ⟨8, _⟩ => ⟨S1x32768, .f32⟩
  | .local _ .vmem, ⟨9, _⟩ => ⟨S1x32768, .f32⟩
  | .local _ .vmem, ⟨10, _⟩ => ⟨S1x32768, .f32⟩
  | _, _ => ⟨S524288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst_1 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_2 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_c_3 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_c_4 : Ref sig .tc := ⟨.hbm, 27, rfl⟩
abbrev main_call0_v13 : Ref sig .tc := ⟨.hbm, 28, rfl⟩
abbrev main_call0_c_5 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_c_6 : Ref sig .tc := ⟨.hbm, 33, rfl⟩
abbrev main_call0_v17 : Ref sig .tc := ⟨.hbm, 34, rfl⟩
abbrev main_call0_c_7 : Ref sig .tc := ⟨.hbm, 35, rfl⟩
abbrev main_call0_v18 : Ref sig .tc := ⟨.hbm, 36, rfl⟩
abbrev main_call0_v19 : Ref sig .tc := ⟨.hbm, 37, rfl⟩
abbrev main_call0_cst_8 : Ref sig .tc := ⟨.hbm, 38, rfl⟩
abbrev main_call0_v20 : Ref sig .tc := ⟨.hbm, 39, rfl⟩
abbrev main_call0_cst_9 : Ref sig .tc := ⟨.hbm, 40, rfl⟩
abbrev main_call0_v21 : Ref sig .tc := ⟨.hbm, 41, rfl⟩
abbrev main_call0_v22 : Ref sig .tc := ⟨.hbm, 42, rfl⟩
abbrev main_call0_c_10 : Ref sig .tc := ⟨.hbm, 43, rfl⟩
abbrev main_call0_v23 : Ref sig .tc := ⟨.hbm, 44, rfl⟩
abbrev main_call0_c_11 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_c_12 : Ref sig .tc := ⟨.hbm, 49, rfl⟩
abbrev main_call0_v27 : Ref sig .tc := ⟨.hbm, 50, rfl⟩
abbrev main_call0_c_13 : Ref sig .tc := ⟨.hbm, 51, rfl⟩
abbrev main_call0_v28 : Ref sig .tc := ⟨.hbm, 52, rfl⟩
abbrev main_call0_v29 : Ref sig .tc := ⟨.hbm, 53, rfl⟩
abbrev main_call0_v30 : Ref sig .tc := ⟨.hbm, 54, rfl⟩
abbrev main_call0_c_14 : Ref sig .tc := ⟨.hbm, 55, rfl⟩
abbrev main_call0_v31 : Ref sig .tc := ⟨.hbm, 56, rfl⟩
abbrev main_call0_c_15 : Ref sig .tc := ⟨.hbm, 57, rfl⟩
abbrev main_call0_v32 : Ref sig .tc := ⟨.hbm, 58, rfl⟩
abbrev main_call0_v33 : Ref sig .tc := ⟨.hbm, 59, rfl⟩
abbrev main_call0_cst_16 : Ref sig .tc := ⟨.hbm, 60, rfl⟩
abbrev main_call0_v34 : Ref sig .tc := ⟨.hbm, 61, rfl⟩
abbrev main_call0_cst_17 : Ref sig .tc := ⟨.hbm, 62, rfl⟩
abbrev main_call0_v35 : Ref sig .tc := ⟨.hbm, 63, rfl⟩
abbrev main_call0_v36 : Ref sig .tc := ⟨.hbm, 64, rfl⟩
abbrev main_call0_c_18 : Ref sig .tc := ⟨.hbm, 65, rfl⟩
abbrev main_call0_v37 : Ref sig .tc := ⟨.hbm, 66, rfl⟩
abbrev main_call0_v38 : Ref sig .tc := ⟨.hbm, 67, rfl⟩
abbrev main_call0_c_19 : Ref sig .tc := ⟨.hbm, 68, rfl⟩
abbrev main_call0_v39 : Ref sig .tc := ⟨.hbm, 69, rfl⟩
abbrev main_call0_v40 : Ref sig .tc := ⟨.hbm, 70, rfl⟩
abbrev main_call0_v41 : Ref sig .tc := ⟨.hbm, 71, rfl⟩
abbrev main_call0_v42 : Ref sig .tc := ⟨.hbm, 72, rfl⟩
abbrev main_v0_0 : Ref sig .tc := ⟨.hbm, 73, rfl⟩
abbrev main_v0_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S72x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S72x72 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x72 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S524288x1 : Shape := ⟨2, ![524288, 1]⟩
abbrev S524288x8 : Shape := ⟨2, ![524288, 8]⟩
abbrev S8x64 : Shape := ⟨2, ![8, 64]⟩
abbrev S64 : Shape := ⟨1, ![64]⟩
abbrev S64x64 : Shape := ⟨2, ![64, 64]⟩
abbrev S64x95 : Shape := ⟨2, ![64, 95]⟩
abbrev S95 : Shape := ⟨1, ![95]⟩
abbrev S524288x64 : Shape := ⟨2, ![524288, 64]⟩
abbrev S1x64 : Shape := ⟨2, ![1, 64]⟩
abbrev S_ : Shape := ⟨0, ![]⟩
abbrev S524288x95 : Shape := ⟨2, ![524288, 95]⟩
abbrev S1x95 : Shape := ⟨2, ![1, 95]⟩
abbrev S524288x32 : Shape := ⟨2, ![524288, 32]⟩
abbrev S524288x31 : Shape := ⟨2, ![524288, 31]⟩
abbrev S524288 : Shape := ⟨1, ![524288]⟩
abbrev S524288x33 : Shape := ⟨2, ![524288, 33]⟩
abbrev S524288x2 : Shape := ⟨2, ![524288, 2]⟩
abbrev S1x524288 : Shape := ⟨2, ![1, 524288]⟩

abbrev nBuf : Space → Nat
  | .hbm => 288
  | .vmem => 0
  | .smem => 0
  | _ => 0

abbrev hbmTy0_0 (i : Nat) : BufTy := match i % 128 with
  | 0 => ⟨S524288x1, .f32⟩
  | 1 => ⟨S524288x8, .f32⟩
  | 2 => ⟨S8x64, .f32⟩
  | 3 => ⟨S64, .f32⟩
  | 4 => ⟨S64x64, .f32⟩
  | 5 => ⟨S64, .f32⟩
  | 6 => ⟨S64x95, .f32⟩
  | 7 => ⟨S95, .f32⟩
  | 8 => ⟨S524288x64, .f32⟩
  | 9 => ⟨S1x64, .f32⟩
  | 10 => ⟨S524288x64, .f32⟩
  | 11 => ⟨S524288x64, .f32⟩
  | 12 => ⟨S_, .f32⟩
  | 13 => ⟨S524288x64, .f32⟩
  | 14 => ⟨S524288x64, .f32⟩
  | 15 => ⟨S524288x64, .f32⟩
  | 16 => ⟨S1x64, .f32⟩
  | 17 => ⟨S524288x64, .f32⟩
  | 18 => ⟨S524288x64, .f32⟩
  | 19 => ⟨S_, .f32⟩
  | 20 => ⟨S524288x64, .f32⟩
  | 21 => ⟨S524288x64, .f32⟩
  | 22 => ⟨S524288x95, .f32⟩
  | 23 => ⟨S1x95, .f32⟩
  | 24 => ⟨S524288x95, .f32⟩
  | 25 => ⟨S524288x95, .f32⟩
  | 26 => ⟨S524288x32, .f32⟩
  | 27 => ⟨S524288x32, .f32⟩
  | 28 => ⟨S524288x31, .f32⟩
  | 29 => ⟨S_, .f32⟩
  | 30 => ⟨S524288, .f32⟩
  | 31 => ⟨S_, .f32⟩
  | 32 => ⟨S524288, .f32⟩
  | 33 => ⟨S524288, .f32⟩
  | 34 => ⟨S524288x1, .f32⟩
  | 35 => ⟨S524288x32, .f32⟩
  | 36 => ⟨S524288x32, .f32⟩
  | 37 => ⟨S524288x32, .f32⟩
  | 38 => ⟨S_, .f32⟩
  | 39 => ⟨S524288, .f32⟩
  | 40 => ⟨S524288x1, .f32⟩
  | 41 => ⟨S524288x32, .f32⟩
  | 42 => ⟨S524288x32, .f32⟩
  | 43 => ⟨S_, .f32⟩
  | 44 => ⟨S524288x32, .f32⟩
  | 45 => ⟨S524288x32, .f32⟩
  | 46 => ⟨S_, .f32⟩
  | 47 => ⟨S524288, .f32⟩
  | 48 => ⟨S_, .f32⟩
  | 49 => ⟨S524288, .f32⟩
  | 50 => ⟨S524288, .f32⟩
  | 51 => ⟨S524288x1, .f32⟩
  | 52 => ⟨S524288x32, .f32⟩
  | 53 => ⟨S524288x32, .f32⟩
  | 54 => ⟨S524288x32, .f32⟩
  | 55 => ⟨S_, .f32⟩
  | 56 => ⟨S524288, .f32⟩
  | 57 => ⟨S524288x1, .f32⟩
  | 58 => ⟨S524288x32, .f32⟩
  | 59 => ⟨S524288x32, .f32⟩
  | 60 => ⟨S_, .f32⟩
  | 61 => ⟨S524288x32, .f32⟩
  | 62 => ⟨S524288x32, .f32⟩
  | 63 => ⟨S_, .f32⟩
  | 64 => ⟨S_, .f32⟩
  | 65 => ⟨S524288x32, .f32⟩
  | 66 => ⟨S_, .f32⟩
  | 67 => ⟨S_, .f32⟩
  | 68 => ⟨S524288x33, .f32⟩
  | 69 => ⟨S_, .f32⟩
  | 70 => ⟨S524288x33, .f32⟩
  | 71 => ⟨S524288x33, .f32⟩
  | 72 => ⟨S_, .f32⟩
  | 73 => ⟨S_, .f32⟩
  | 74 => ⟨S524288x32, .f32⟩
  | 75 => ⟨S_, .f32⟩
  | 76 => ⟨S_, .f32⟩
  | 77 => ⟨S524288x33, .f32⟩
  | 78 => ⟨S_, .f32⟩
  | 79 => ⟨S524288x33, .f32⟩
  | 80 => ⟨S524288x33, .f32⟩
  | 81 => ⟨S_, .f32⟩
  | 82 => ⟨S524288x31, .f32⟩
  | 83 => ⟨S524288x31, .f32⟩
  | 84 => ⟨S524288x31, .f32⟩
  | 85 => ⟨S524288x31, .f32⟩
  | 86 => ⟨S524288x31, .i1⟩
  | 87 => ⟨S524288x31, .f32⟩
  | 88 => ⟨S524288x31, .f32⟩
  | 89 => ⟨S524288x31, .f32⟩
  | 90 => ⟨S524288x31, .f32⟩
  | 91 => ⟨S524288x31, .f32⟩
  | 92 => ⟨S524288x31, .f32⟩
  | 93 => ⟨S524288x31, .f32⟩
  | 94 => ⟨S524288x31, .f32⟩
  | 95 => ⟨S_, .f32⟩
  | 96 => ⟨S524288x31, .f32⟩
  | 97 => ⟨S524288x31, .f32⟩
  | 98 => ⟨S_, .f32⟩
  | 99 => ⟨S_, .f32⟩
  | 100 => ⟨S524288x33, .f32⟩
  | 101 => ⟨S524288, .f32⟩
  | 102 => ⟨S524288x33, .f32⟩
  | 103 => ⟨S524288x33, .i1⟩
  | 104 => ⟨S524288x33, .i32⟩
  | 105 => ⟨S_, .i32⟩
  | 106 => ⟨S524288, .i32⟩
  | 107 => ⟨S_, .i32⟩
  | 108 => ⟨S524288, .i32⟩
  | 109 => ⟨S524288, .i1⟩
  | 110 => ⟨S_, .i32⟩
  | 111 => ⟨S_, .i32⟩
  | 112 => ⟨S524288, .i32⟩
  | 113 => ⟨S524288, .i32⟩
  | 114 => ⟨S_, .i32⟩
  | 115 => ⟨S524288, .i32⟩
  | 116 => ⟨S524288, .i1⟩
  | 117 => ⟨S_, .i32⟩
  | 118 => ⟨S_, .i32⟩
  | 119 => ⟨S524288, .i32⟩
  | 120 => ⟨S524288, .i32⟩
  | 121 => ⟨S_, .i32⟩
  | 122 => ⟨S524288, .i32⟩
  | 123 => ⟨S524288, .i32⟩
  | 124 => ⟨S_, .i32⟩
  | 125 => ⟨S524288, .i32⟩
  | 126 => ⟨S524288, .i32⟩
  | 127 => ⟨S524288, .i32⟩
  | _ => ⟨S524288x1, .f32⟩

abbrev hbmTy0_1 (i : Nat) : BufTy := match i % 128 with
  | 0 => ⟨S_, .i32⟩
  | 1 => ⟨S524288, .i32⟩
  | 2 => ⟨S524288, .i1⟩
  | 3 => ⟨S_, .i32⟩
  | 4 => ⟨S524288, .i32⟩
  | 5 => ⟨S524288, .i32⟩
  | 6 => ⟨S524288, .i32⟩
  | 7 => ⟨S_, .i32⟩
  | 8 => ⟨S524288, .i32⟩
  | 9 => ⟨S524288, .i1⟩
  | 10 => ⟨S_, .i32⟩
  | 11 => ⟨S524288, .i32⟩
  | 12 => ⟨S524288, .i32⟩
  | 13 => ⟨S524288, .i32⟩
  | 14 => ⟨S524288x1, .i32⟩
  | 15 => ⟨S524288x1, .i32⟩
  | 16 => ⟨S524288x2, .i32⟩
  | 17 => ⟨S524288, .f32⟩
  | 18 => ⟨S_, .i32⟩
  | 19 => ⟨S524288, .i32⟩
  | 20 => ⟨S524288, .i1⟩
  | 21 => ⟨S_, .i32⟩
  | 22 => ⟨S524288, .i32⟩
  | 23 => ⟨S524288, .i32⟩
  | 24 => ⟨S524288, .i32⟩
  | 25 => ⟨S_, .i32⟩
  | 26 => ⟨S524288, .i32⟩
  | 27 => ⟨S524288, .i1⟩
  | 28 => ⟨S_, .i32⟩
  | 29 => ⟨S524288, .i32⟩
  | 30 => ⟨S524288, .i32⟩
  | 31 => ⟨S524288, .i32⟩
  | 32 => ⟨S524288x1, .i32⟩
  | 33 => ⟨S524288x1, .i32⟩
  | 34 => ⟨S524288x2, .i32⟩
  | 35 => ⟨S524288, .f32⟩
  | 36 => ⟨S_, .i32⟩
  | 37 => ⟨S524288, .i32⟩
  | 38 => ⟨S524288, .i1⟩
  | 39 => ⟨S_, .i32⟩
  | 40 => ⟨S524288, .i32⟩
  | 41 => ⟨S524288, .i32⟩
  | 42 => ⟨S524288, .i32⟩
  | 43 => ⟨S_, .i32⟩
  | 44 => ⟨S524288, .i32⟩
  | 45 => ⟨S524288, .i1⟩
  | 46 => ⟨S_, .i32⟩
  | 47 => ⟨S524288, .i32⟩
  | 48 => ⟨S524288, .i32⟩
  | 49 => ⟨S524288, .i32⟩
  | 50 => ⟨S524288x1, .i32⟩
  | 51 => ⟨S524288x1, .i32⟩
  | 52 => ⟨S524288x2, .i32⟩
  | 53 => ⟨S524288, .f32⟩
  | 54 => ⟨S_, .i32⟩
  | 55 => ⟨S524288, .i32⟩
  | 56 => ⟨S524288, .i1⟩
  | 57 => ⟨S_, .i32⟩
  | 58 => ⟨S524288, .i32⟩
  | 59 => ⟨S524288, .i32⟩
  | 60 => ⟨S524288, .i32⟩
  | 61 => ⟨S_, .i32⟩
  | 62 => ⟨S524288, .i32⟩
  | 63 => ⟨S524288, .i1⟩
  | 64 => ⟨S_, .i32⟩
  | 65 => ⟨S524288, .i32⟩
  | 66 => ⟨S524288, .i32⟩
  | 67 => ⟨S524288, .i32⟩
  | 68 => ⟨S524288x1, .i32⟩
  | 69 => ⟨S524288x1, .i32⟩
  | 70 => ⟨S524288x2, .i32⟩
  | 71 => ⟨S524288, .f32⟩
  | 72 => ⟨S_, .i32⟩
  | 73 => ⟨S524288, .i32⟩
  | 74 => ⟨S524288, .i1⟩
  | 75 => ⟨S_, .i32⟩
  | 76 => ⟨S524288, .i32⟩
  | 77 => ⟨S524288, .i32⟩
  | 78 => ⟨S524288, .i32⟩
  | 79 => ⟨S_, .i32⟩
  | 80 => ⟨S524288, .i32⟩
  | 81 => ⟨S524288, .i1⟩
  | 82 => ⟨S_, .i32⟩
  | 83 => ⟨S524288, .i32⟩
  | 84 => ⟨S524288, .i32⟩
  | 85 => ⟨S524288, .i32⟩
  | 86 => ⟨S524288x1, .i32⟩
  | 87 => ⟨S524288x1, .i32⟩
  | 88 => ⟨S524288x2, .i32⟩
  | 89 => ⟨S524288, .f32⟩
  | 90 => ⟨S_, .i32⟩
  | 91 => ⟨S524288, .i32⟩
  | 92 => ⟨S524288, .i1⟩
  | 93 => ⟨S_, .i32⟩
  | 94 => ⟨S524288, .i32⟩
  | 95 => ⟨S524288, .i32⟩
  | 96 => ⟨S524288, .i32⟩
  | 97 => ⟨S_, .i32⟩
  | 98 => ⟨S524288, .i32⟩
  | 99 => ⟨S524288, .i1⟩
  | 100 => ⟨S_, .i32⟩
  | 101 => ⟨S524288, .i32⟩
  | 102 => ⟨S524288, .i32⟩
  | 103 => ⟨S524288, .i32⟩
  | 104 => ⟨S524288x1, .i32⟩
  | 105 => ⟨S524288x1, .i32⟩
  | 106 => ⟨S524288x2, .i32⟩
  | 107 => ⟨S524288, .f32⟩
  | 108 => ⟨S524288, .f32⟩
  | 109 => ⟨S524288, .f32⟩
  | 110 => ⟨S524288, .f32⟩
  | 111 => ⟨S524288, .f32⟩
  | 112 => ⟨S524288, .f32⟩
  | 113 => ⟨S524288, .f32⟩
  | 114 => ⟨S524288, .f32⟩
  | 115 => ⟨S_, .f32⟩
  | 116 => ⟨S524288, .f32⟩
  | 117 => ⟨S524288, .f32⟩
  | 118 => ⟨S524288, .f32⟩
  | 119 => ⟨S524288, .f32⟩
  | 120 => ⟨S_, .f32⟩
  | 121 => ⟨S524288, .f32⟩
  | 122 => ⟨S524288, .f32⟩
  | 123 => ⟨S524288, .f32⟩
  | 124 => ⟨S524288, .f32⟩
  | 125 => ⟨S524288, .f32⟩
  | 126 => ⟨S524288, .f32⟩
  | 127 => ⟨S524288, .f32⟩
  | _ => ⟨S524288x1, .f32⟩

abbrev hbmTy0_2 (i : Nat) : BufTy := match i % 128 with
  | 0 => ⟨S524288, .f32⟩
  | 1 => ⟨S_, .f32⟩
  | 2 => ⟨S524288, .f32⟩
  | 3 => ⟨S524288, .f32⟩
  | 4 => ⟨S524288, .f32⟩
  | 5 => ⟨S524288, .f32⟩
  | 6 => ⟨S524288, .f32⟩
  | 7 => ⟨S524288, .f32⟩
  | 8 => ⟨S524288, .f32⟩
  | 9 => ⟨S524288, .f32⟩
  | 10 => ⟨S524288, .f32⟩
  | 11 => ⟨S524288, .f32⟩
  | 12 => ⟨S_, .f32⟩
  | 13 => ⟨S524288, .f32⟩
  | 14 => ⟨S524288, .f32⟩
  | 15 => ⟨S524288, .f32⟩
  | 16 => ⟨S_, .f32⟩
  | 17 => ⟨S524288, .f32⟩
  | 18 => ⟨S524288, .f32⟩
  | 19 => ⟨S524288, .f32⟩
  | 20 => ⟨S524288, .f32⟩
  | 21 => ⟨S_, .f32⟩
  | 22 => ⟨S524288, .f32⟩
  | 23 => ⟨S524288, .f32⟩
  | 24 => ⟨S524288, .f32⟩
  | 25 => ⟨S524288, .f32⟩
  | 26 => ⟨S524288, .f32⟩
  | 27 => ⟨S524288, .f32⟩
  | 28 => ⟨S524288, .f32⟩
  | 29 => ⟨S524288, .f32⟩
  | 30 => ⟨S1x524288, .f32⟩
  | 31 => ⟨S1x524288, .f32⟩
  | _ => ⟨S524288x1, .f32⟩

abbrev hbmTy (i : Nat) : BufTy := match i / 128 with
  | 0 => hbmTy0_0 i
  | 1 => hbmTy0_1 i
  | 2 => hbmTy0_2 i
  | _ => ⟨S524288x1, .f32⟩

abbrev bufTy : (tb : Table) → Fin (tcTables nBuf tb) → BufTy
  | .hbm, ⟨i, _⟩ => hbmTy i
  | _, _ => ⟨S524288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_call2_call0_cst : Ref sig .tc := ⟨.hbm, 63, rfl⟩
abbrev main_call2_call0_v0 : Ref sig .tc := ⟨.hbm, 64, rfl⟩
abbrev main_v43 : Ref sig .tc := ⟨.hbm, 65, rfl⟩
abbrev main_cst_7 : Ref sig .tc := ⟨.hbm, 66, rfl⟩
abbrev main_call3_v0 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_call4_call0_cst : Ref sig .tc := ⟨.hbm, 72, rfl⟩
abbrev main_call4_call0_v0 : Ref sig .tc := ⟨.hbm, 73, rfl⟩
abbrev main_v47 : Ref sig .tc := ⟨.hbm, 74, rfl⟩
abbrev main_cst_9 : Ref sig .tc := ⟨.hbm, 75, rfl⟩
abbrev main_call5_v0 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_call6_cst : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_v6 : Ref sig .tc := ⟨.hbm, 88, rfl⟩
abbrev main_call6_v7 : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_v11 : Ref sig .tc := ⟨.hbm, 93, rfl⟩
abbrev main_v51 : Ref sig .tc := ⟨.hbm, 94, rfl⟩
abbrev main_cst_11 : Ref sig .tc := ⟨.hbm, 95, rfl⟩
abbrev main_v52 : Ref sig .tc := ⟨.hbm, 96, rfl⟩
abbrev main_v53 : Ref sig .tc := ⟨.hbm, 97, rfl⟩
abbrev main_cst_12 : Ref sig .tc := ⟨.hbm, 98, rfl⟩
abbrev main_call7_v0 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_c : Ref sig .tc := ⟨.hbm, 105, rfl⟩
abbrev main_v59 : Ref sig .tc := ⟨.hbm, 106, rfl⟩
abbrev main_c_13 : Ref sig .tc := ⟨.hbm, 107, rfl⟩
abbrev main_v60 : Ref sig .tc := ⟨.hbm, 108, rfl⟩
abbrev main_v61 : Ref sig .tc := ⟨.hbm, 109, rfl⟩
abbrev main_c_14 : Ref sig .tc := ⟨.hbm, 110, rfl⟩
abbrev main_call8_v0 : Ref sig .tc := ⟨.hbm, 111, rfl⟩
abbrev main_call8_v1 : Ref sig .tc := ⟨.hbm, 112, rfl⟩
abbrev main_v62 : Ref sig .tc := ⟨.hbm, 113, rfl⟩
abbrev main_c_15 : Ref sig .tc := ⟨.hbm, 114, rfl⟩
abbrev main_v63 : Ref sig .tc := ⟨.hbm, 115, rfl⟩
abbrev main_v64 : Ref sig .tc := ⟨.hbm, 116, rfl⟩
abbrev main_c_16 : Ref sig .tc := ⟨.hbm, 117, rfl⟩
abbrev main_call9_v0 : Ref sig .tc := ⟨.hbm, 118, rfl⟩
abbrev main_call9_v1 : Ref sig .tc := ⟨.hbm, 119, rfl⟩
abbrev main_v65 : Ref sig .tc := ⟨.hbm, 120, rfl⟩
abbrev main_c_17 : Ref sig .tc := ⟨.hbm, 121, rfl⟩
abbrev main_v66 : Ref sig .tc := ⟨.hbm, 122, rfl⟩
abbrev main_v67 : Ref sig .tc := ⟨.hbm, 123, rfl⟩
abbrev main_c_18 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_c_19 : Ref sig .tc := ⟨.hbm, 128, rfl⟩
abbrev main_v71 : Ref sig .tc := ⟨.hbm, 129, rfl⟩
abbrev main_v72 : Ref sig .tc := ⟨.hbm, 130, rfl⟩
abbrev main_c_20 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_c_21 : Ref sig .tc := ⟨.hbm, 135, rfl⟩
abbrev main_v76 : Ref sig .tc := ⟨.hbm, 136, rfl⟩
abbrev main_v77 : Ref sig .tc := ⟨.hbm, 137, rfl⟩
abbrev main_c_22 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_c_23 : Ref sig .tc := ⟨.hbm, 146, rfl⟩
abbrev main_v85 : Ref sig .tc := ⟨.hbm, 147, rfl⟩
abbrev main_v86 : Ref sig .tc := ⟨.hbm, 148, rfl⟩
abbrev main_c_24 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_c_25 : Ref sig .tc := ⟨.hbm, 153, rfl⟩
abbrev main_v90 : Ref sig .tc := ⟨.hbm, 154, rfl⟩
abbrev main_v91 : Ref sig .tc := ⟨.hbm, 155, rfl⟩
abbrev main_c_26 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_c_27 : Ref sig .tc := ⟨.hbm, 164, rfl⟩
abbrev main_v99 : Ref sig .tc := ⟨.hbm, 165, rfl⟩
abbrev main_v100 : Ref sig .tc := ⟨.hbm, 166, rfl⟩
abbrev main_c_28 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_c_29 : Ref sig .tc := ⟨.hbm, 171, rfl⟩
abbrev main_v104 : Ref sig .tc := ⟨.hbm, 172, rfl⟩
abbrev main_v105 : Ref sig .tc := ⟨.hbm, 173, rfl⟩
abbrev main_c_30 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_c_31 : Ref sig .tc := ⟨.hbm, 182, rfl⟩
abbrev main_v113 : Ref sig .tc := ⟨.hbm, 183, rfl⟩
abbrev main_v114 : Ref sig .tc := ⟨.hbm, 184, rfl⟩
abbrev main_c_32 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_c_33 : Ref sig .tc := ⟨.hbm, 189, rfl⟩
abbrev main_v118 : Ref sig .tc := ⟨.hbm, 190, rfl⟩
abbrev main_v119 : Ref sig .tc := ⟨.hbm, 191, rfl⟩
abbrev main_c_34 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_c_35 : Ref sig .tc := ⟨.hbm, 200, rfl⟩
abbrev main_v127 : Ref sig .tc := ⟨.hbm, 201, rfl⟩
abbrev main_v128 : Ref sig .tc := ⟨.hbm, 202, rfl⟩
abbrev main_c_36 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_c_37 : Ref sig .tc := ⟨.hbm, 207, rfl⟩
abbrev main_v132 : Ref sig .tc := ⟨.hbm, 208, rfl⟩
abbrev main_v133 : Ref sig .tc := ⟨.hbm, 209, rfl⟩
abbrev main_c_38 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_c_39 : Ref sig .tc := ⟨.hbm, 218, rfl⟩
abbrev main_v141 : Ref sig .tc := ⟨.hbm, 219, rfl⟩
abbrev main_v142 : Ref sig .tc := ⟨.hbm, 220, rfl⟩
abbrev main_c_40 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_c_41 : Ref sig .tc := ⟨.hbm, 225, rfl⟩
abbrev main_v146 : Ref sig .tc := ⟨.hbm, 226, rfl⟩
abbrev main_v147 : Ref sig .tc := ⟨.hbm, 227, rfl⟩
abbrev main_c_42 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_cst_43 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_cst_44 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_cst_45 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_cst_46 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_cst_47 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_cst_48 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩

abbrev nD : Nat := 1
abbrev τ : Topo := Topo.v7x

variable {F : FTy → Type} [FloatOps F]
-- ==== Proof.Spline.lean ====
/- The mathematics of one monotone rational-quadratic spline with 32 bins, over the extended reals: prefix sums
   of positive bin weights, the bin a coordinate falls into, the knots, and the value and the slope of the spline
   inside that bin. Nothing here mentions a program. -/
module

public import Idealize.ShloMosaic.Lib.IdealHost
public import Idealize.ShloMosaic.Lib.ValueIdx
public import Idealize.ShloMosaic.Lib.Pointwise

@[expose] public section

noncomputable section

namespace Cert.Spline

open Idealize.ShloMosaic
open scoped BigOperators

/-! ## A downward closed set of bins is an initial segment -/

/-- If a property of the numbers below `n` passes from a number to every smaller one, a number has it exactly when
    it is below the count of those that have it. -/
theorem lt_card_iff {n : ℕ} (P : Fin n → Prop) [DecidablePred P] (hP : ∀ i j : Fin n, i ≤ j → P j → P i) (j : Fin n) :
    P j ↔ j.val < (Finset.univ.filter P).card := by
  constructor
  · intro h
    have hs : Finset.Iic j ⊆ Finset.univ.filter P := fun i hi => by
      simpa using hP i j (Finset.mem_Iic.mp hi) h
    have := Finset.card_le_card hs
    rw [Fin.card_Iic] at this
    omega
  · intro h
    by_contra hn
    have hs : Finset.univ.filter P ⊆ Finset.Iio j := fun i hi => by
      rw [Finset.mem_Iio]
      by_contra hc
      exact hn (hP j i (not_lt.mp hc) (by simpa using hi))
    have := Finset.card_le_card hs
    rw [Fin.card_Iio] at this
    omega

/-! ## Prefix sums of bin weights -/

/-- The sum of the weights of the bins before bin `n`. -/
def pre (e : Fin 32 → ℝ) (n : ℕ) : ℝ := ∑ j ∈ Finset.univ.filter (fun j : Fin 32 => j.val < n), e j

theorem pre_zero (e : Fin 32 → ℝ) : pre e 0 = 0 := by simp [pre]

theorem pre_all (e : Fin 32 → ℝ) : pre e 32 = ∑ j, e j := by simp [pre]

theorem pre_succ (e : Fin 32 → ℝ) (n : Fin 32) : pre e (n.val + 1) = pre e n.val + e n := by
  unfold pre
  rw [show Finset.univ.filter (fun j : Fin 32 => j.val < n.val + 1) = insert n (Finset.univ.filter (fun j : Fin 32 => j.val < n.val)) by
    ext j; simp [Fin.ext_iff]; omega]
  rw [Finset.sum_insert (by simp)]
  ring

theorem pre_mono (e : Fin 32 → ℝ) (he : ∀ j, 0 < e j) {a b : ℕ} (h : a ≤ b) : pre e a ≤ pre e b := by
  unfold pre
  refine Finset.sum_le_sum_of_subset_of_nonneg (fun j hj => ?_) (fun j _ _ => (he j).le)
  simp only [Finset.mem_filter, Finset.mem_univ, true_and] at hj ⊢
  omega

theorem pre_all_pos (e : Fin 32 → ℝ) (he : ∀ j, 0 < e j) : 0 < pre e 32 := by
  rw [pre_all]; exact Finset.sum_pos (fun j _ => he j) ⟨0, Finset.mem_univ _⟩

/-- Knot `n`: the weights before bin `n`, scaled so that all the weights together span an interval of length two
    that starts at minus one. -/
def knot (e : Fin 32 → ℝ) (n : ℕ) : ℝ := pre e n * (2 / pre e 32) - 1

/-- The end of bin `j` lies before `x`, compared without dividing. -/
def Below (e : Fin 32 → ℝ) (x : EReal) (j : Fin 32) : Prop :=
  ((pre e (j.val + 1) : ℝ) : EReal) < (x + 1) * ((pre e 32 : ℝ) * ((1 / 2 : ℝ) : EReal))

/-- The bin `x` falls into: the number of bins that end before `x`. -/
def bin (e : Fin 32 → ℝ) (x : EReal) : ℕ := by
  classical exact (Finset.univ.filter (Below e x)).card

theorem below_iff (e : Fin 32 → ℝ) (x : EReal) (j : Fin 32) (he : ∀ j, 0 < e j) : Below e x j ↔ j.val < bin e x := by
  classical
  refine (lt_card_iff (Below e x) (fun i j h hj => lt_of_le_of_lt ?_ hj) j).trans (by unfold bin; rfl)
  exact EReal.coe_le_coe_iff.mpr (pre_mono e he (by have : i.val ≤ j.val := h; omega))

/-- Comparing a prefix sum with the scaled coordinate is comparing the knot with the coordinate. -/
theorem knot_lt_iff (e : Fin 32 → ℝ) (he : ∀ j, 0 < e j) (x : EReal) (hx : x ≤ 1) (n : ℕ) :
    ((pre e n : ℝ) : EReal) < (x + 1) * ((pre e 32 : ℝ) * ((1 / 2 : ℝ) : EReal)) ↔ ((knot e n : ℝ) : EReal) < x := by
  have hS := pre_all_pos e he
  induction x with
  | bot =>
    rw [EReal.bot_add, ← EReal.coe_mul, EReal.bot_mul_coe_of_pos (by positivity)]
    simp
  | top => exact absurd (top_le_iff.mp hx) (EReal.coe_ne_top 1)
  | coe r =>
    rw [show ((1 : EReal)) = ((1 : ℝ) : EReal) from rfl, ← EReal.coe_add, ← EReal.coe_mul, ← EReal.coe_mul, EReal.coe_lt_coe_iff,
      EReal.coe_lt_coe_iff]
    unfold knot
    rw [sub_lt_iff_lt_add, show pre e n * (2 / pre e 32) = pre e n * 2 / pre e 32 by ring, div_lt_iff₀ hS]
    constructor <;> intro h <;> linarith

theorem bin_lt (e : Fin 32 → ℝ) (he : ∀ j, 0 < e j) (x : EReal) (hx : x ≤ 1) : bin e x < 32 := by
  have h := (below_iff e x 31 he).not
  have hn : ¬ Below e x 31 := by
    unfold Below
    rw [knot_lt_iff e he x hx]
    have : knot e 32 = 1 := by
      unfold knot
      have := (pre_all_pos e he).ne'
      field_simp
      norm_num
    intro hl
    have h1 : ((knot e 32 : ℝ) : EReal) < x := hl
    rw [this] at h1
    exact absurd hx (not_le.mpr h1)
  have := h.mp hn
  have h31 : (31 : Fin 32).val = 31 := rfl
  omega

/-- The knots before `x`, counted: none, or all those up to the bin of `x`. -/
theorem count_knots (e : Fin 32 → ℝ) (he : ∀ j, 0 < e j) (x : EReal) (hx : x ≤ 1) (k : Fin 33) :
    ((knot e k.val : ℝ) : EReal) < x ↔ (k.val < bin e x + 1 ∧ ((-1 : ℝ) : EReal) < x) := by
  have hS := pre_all_pos e he
  have h0 : knot e 0 = -1 := by unfold knot; rw [pre_zero]; ring
  by_cases hk : k.val = 0
  · rw [hk, h0]; simp
  · obtain ⟨j, hj⟩ : ∃ j : Fin 32, k.val = j.val + 1 := ⟨⟨k.val - 1, by omega⟩, by simp; omega⟩
    rw [hj, ← knot_lt_iff e he x hx]
    have hb := below_iff e x j he
    unfold Below at hb
    rw [hb]
    constructor
    · intro h
      refine ⟨by omega, ?_⟩
      have h1 := (knot_lt_iff e he x hx _).mp (hb.mpr h)
      refine lt_of_le_of_lt (EReal.coe_le_coe_iff.mpr ?_) h1
      rw [← h0]
      unfold knot
      have := pre_mono e he (Nat.zero_le (j.val + 1))
      have h2 : 0 ≤ 2 / pre e 32 := by positivity
      nlinarith [mul_le_mul_of_nonneg_right this h2]
    · intro h; omega

/-! ## Sums picked out by the bin -/

theorem coe_sum {n : ℕ} (f : Fin n → ℝ) : ∑ j, ((f j : ℝ) : EReal) = ((∑ j, f j : ℝ) : EReal) := by
  induction n with
  | zero => simp
  | succ n ih => rw [Fin.sum_univ_succ, Fin.sum_univ_succ, EReal.coe_add, ih]

/-- The weights under the indicator of the bins before `n` sum to the prefix sum. -/
theorem sum_before (e : Fin 32 → ℝ) (n : ℕ) :
    ∑ j : Fin 32, (if j.val < n then (1 : ℝ) else 0) * e j = pre e n := by
  unfold pre
  rw [Finset.sum_filter]
  exact Finset.sum_congr rfl fun j _ => by split <;> simp

/-- Under the indicator of one bin they sum to that bin's weight. -/
theorem sum_at (e : Fin 32 → ℝ) (n : Fin 32) : ∑ j : Fin 32, (if j.val = n.val then (1 : ℝ) else 0) * e j = e n := by
  rw [Finset.sum_eq_single n]
  · simp
  · intro j _ hj
    rw [if_neg (fun h => hj (Fin.ext h))]; simp
  · simp

/-- Thirty-two terms summed as eight sums of four, each over the rows eight apart. -/
theorem sum_by_eights (f : Fin 32 → EReal) :
    ∑ b : Fin 8, ∑ q : Fin 4, f ⟨8 * q.val + b.val, by omega⟩ = ∑ j, f j := by
  rw [Finset.sum_comm, ← Fintype.sum_prod_type' (fun (q : Fin 4) (b : Fin 8) => f ⟨8 * q.val + b.val, by omega⟩)]
  exact Fintype.sum_equiv (finProdFinEquiv (m := 4) (n := 8)) _ _ fun p => congrArg f (Fin.ext (by simp [finProdFinEquiv]; omega))

/-! ## The soft plus -/

theorem coe_max' (a b : ℝ) : ((max a b : ℝ) : EReal) = max (a : EReal) (b : EReal) := EReal.coe_strictMono.monotone.map_max

/-- The soft plus as both programs spell it. -/
def soft (v : EReal) : EReal := max v 0 + Ideal.log1p (Ideal.exp (-(max v (-v))))

theorem soft_coe (v : ℝ) : soft (v : EReal) = ((Real.log (1 + Real.exp v) : ℝ) : EReal) := by
  unfold soft
  have hm : max (v : EReal) (-(v : EReal)) = ((|v| : ℝ) : EReal) := by
    rw [← EReal.coe_neg, abs, ← coe_max']
  rw [hm, ← EReal.coe_neg]
  have h1 : Ideal.exp ((-|v| : ℝ) : EReal) = ((Real.exp (-|v|) : ℝ) : EReal) := rfl
  have h2 : Ideal.log1p ((Real.exp (-|v|) : ℝ) : EReal) = ((Real.log (1 + Real.exp (-|v|)) : ℝ) : EReal) := by
    unfold Ideal.log1p
    rw [show (1 : EReal) = ((1 : ℝ) : EReal) from rfl, ← EReal.coe_add]
    show (if 1 + Real.exp (-|v|) ≤ 0 then (⊥ : EReal) else _) = _
    rw [if_neg (by have := Real.exp_pos (-|v|); linarith)]
  rw [h1, h2, show (0 : EReal) = ((0 : ℝ) : EReal) from rfl, ← coe_max', ← EReal.coe_add, EReal.coe_eq_coe_iff]
  rcases le_total 0 v with h | h
  · rw [max_eq_left h, abs_of_nonneg h]
    have he : 1 + Real.exp v = Real.exp v * (1 + Real.exp (-v)) := by
      rw [mul_add, ← Real.exp_add]; simp; ring
    rw [he, Real.log_mul (Real.exp_pos v).ne' (by have := Real.exp_pos (-v); linarith), Real.log_exp]
  · rw [max_eq_right h, abs_of_nonpos h]; simp

/-- The pad of the derivative logits: the soft plus takes it to one less the smallest slope. -/
theorem pad_value (c : ℝ) (hc : c < 1) :
    Ideal.log (Ideal.expm1 (((1 : ℝ) : EReal) - (c : EReal))) = ((Real.log (Real.exp (1 - c) - 1) : ℝ) : EReal) := by
  rw [← EReal.coe_sub]
  unfold Ideal.expm1
  have h1 : Ideal.exp ((1 - c : ℝ) : EReal) = ((Real.exp (1 - c) : ℝ) : EReal) := rfl
  rw [h1, show (1 : EReal) = ((1 : ℝ) : EReal) from rfl, ← EReal.coe_sub]
  show (if Real.exp (1 - c) - 1 ≤ 0 then (⊥ : EReal) else _) = _
  rw [if_neg]
  have := Real.add_one_lt_exp (x := 1 - c) (by linarith)
  linarith

theorem soft_pad (c : ℝ) (hc : c < 1) : soft ((Real.log (Real.exp (1 - c) - 1) : ℝ) : EReal) + (c : EReal) = 1 := by
  have hp : 0 < Real.exp (1 - c) - 1 := by
    have := Real.add_one_lt_exp (x := 1 - c) (by linarith)
    linarith
  rw [soft_coe, Real.exp_log hp, show 1 + (Real.exp (1 - c) - 1) = Real.exp (1 - c) by ring, Real.log_exp, ← EReal.coe_add]
  rw [show 1 - c + c = 1 by ring]; rfl

/-! ## Bin weights from logits -/

/-- The float pattern of minus infinity is the least extended real. -/
theorem ofBits_neg_inf : Ideal.ofBits .f32 0xFF800000#32 = ⊥ := by simp [Ideal.ofBits, Ideal.ieee]

/-- The greatest of finitely many reals, at least one of them, is a real. -/
theorem fold_real {n : ℕ} (f : Fin n → ℝ) (s : Finset (Fin n)) (hs : s.Nonempty) :
    ∃ M : ℝ, Finset.fold max (⊥ : EReal) (fun k => ((f k : ℝ) : EReal)) s = M := by
  induction hs using Finset.Nonempty.cons_induction with
  | singleton a => exact ⟨f a, by simp⟩
  | cons a s ha hs ih =>
    obtain ⟨M, hM⟩ := ih
    exact ⟨max (f a) M, by rw [Finset.fold_cons, hM, coe_max']⟩

/-- The greatest of 32 logits. -/
def top (f : Fin 32 → ℝ) : ℝ := (fold_real f Finset.univ ⟨0, Finset.mem_univ _⟩).choose

theorem fold_top (f : Fin 32 → ℝ) : Finset.fold max (⊥ : EReal) (fun k => ((f k : ℝ) : EReal)) Finset.univ = ((top f : ℝ) : EReal) :=
  (fold_real f Finset.univ ⟨0, Finset.mem_univ _⟩).choose_spec

/-- The weight of a bin: the exponential of its logit, the greatest logit taken off. -/
def wgt (f : Fin 32 → ℝ) (j : Fin 32) : ℝ := Real.exp (f j - top f)

theorem wgt_pos (f : Fin 32 → ℝ) (j : Fin 32) : 0 < wgt f j := Real.exp_pos _

theorem exp_wgt (f : Fin 32 → ℝ) (j : Fin 32) : Ideal.exp (((f j : ℝ) : EReal) - ((top f : ℝ) : EReal)) = ((wgt f j : ℝ) : EReal) := by
  rw [← EReal.coe_sub]; rfl

/-! ## The network that gives a row its logits -/

/-- A dense layer. -/
def dense {p q : ℕ} (W : Fin p → Fin q → EReal) (b : Fin q → EReal) (v : Fin p → EReal) : Fin q → EReal :=
  fun j => ∑ k, v k * W k j + b j

/-- The positive part, entry by entry. -/
def relu {p : ℕ} (v : Fin p → EReal) : Fin p → EReal := fun j => max (v j) 0

/-- Every entry is a real number. -/
def Finite {p : ℕ} (v : Fin p → EReal) : Prop := ∀ j, ∃ r : ℝ, v j = r

theorem finite_relu {p : ℕ} {v : Fin p → EReal} (h : Finite v) : Finite (relu v) := fun j => by
  obtain ⟨r, hr⟩ := h j
  exact ⟨max r 0, by unfold relu; rw [hr, coe_max']; rfl⟩

theorem finite_dense {p q : ℕ} {W : Fin p → Fin q → EReal} {b : Fin q → EReal} {v : Fin p → EReal} (hW : ∀ k, Finite (W k))
    (hb : Finite b) (hv : Finite v) : Finite (dense W b v) := fun j => by
  choose v' hv' using hv
  choose W' hW' using hW
  obtain ⟨b', hb'⟩ := hb j
  refine ⟨∑ k, v' k * W' k j + b', ?_⟩
  unfold dense
  rw [EReal.coe_add, ← coe_sum, hb']
  exact congrArg (· + (b' : EReal)) (Finset.sum_congr rfl fun k _ => by rw [hv', hW', EReal.coe_mul])

/-- The 95 logits of a row: two hidden layers of 64 and an output layer. -/
def logits (W1 : Fin 8 → Fin 64 → EReal) (b1 : Fin 64 → EReal) (W2 : Fin 64 → Fin 64 → EReal) (b2 : Fin 64 → EReal)
    (W3 : Fin 64 → Fin 95 → EReal) (b3 : Fin 95 → EReal) (z : Fin 8 → EReal) : Fin 95 → EReal :=
  dense W3 b3 (relu (dense W2 b2 (relu (dense W1 b1 z))))

/-! ## The value and the slope inside a bin -/

/-- The rational quadratic's denominator at the fraction `t` of a bin of slope `s`, with end slopes `d` and `d'`. -/
def den (s t d d' : EReal) : EReal := s + ((d' + d - 2 * s) * t) * (1 - t)

/-- The spline's value: in the bin from `(xk, yk)` to `(xn, yn)`. -/
def val (x xk xn yk yn d d' : EReal) : EReal :=
  let s := Ideal.div (yn - yk) (xn - xk)
  let t := Ideal.div (x - xk) (xn - xk)
  yk + Ideal.div ((yn - yk) * (s * (t * t) + d * t * (1 - t))) (den s t d d')

/-- The spline's slope there. -/
def slope (x xk xn yk yn d d' : EReal) : EReal :=
  let s := Ideal.div (yn - yk) (xn - xk)
  let t := Ideal.div (x - xk) (xn - xk)
  Ideal.div (s * s * (d' * (t * t) + 2 * s * t * (1 - t) + d * ((1 - t) * (1 - t)))) (den s t d d' * den s t d d')

/-- The slope at knot `n` of a row of 31 interior derivative logits: one at both ends, inside the soft plus of the
    knot's logit and a smallest slope `c`. -/
def deriv (c : EReal) (q : Fin 31 → EReal) (n : ℕ) : EReal :=
  if h : 1 ≤ n ∧ n < 32 then soft (q ⟨n - 1, by omega⟩) + c else 1

theorem deriv_succ (c : ℝ) (hc : c < 1) (q : Fin 31 → EReal) (d : Fin 32 → EReal) (hd : ∀ k : Fin 31, d ⟨k.val, by omega⟩ = q k)
    (hpad : d 31 = ((Real.log (Real.exp (1 - c) - 1) : ℝ) : EReal)) (n : Fin 32) :
    soft (d n) + (c : EReal) = deriv c q (n.val + 1) := by
  unfold deriv
  by_cases h : n.val + 1 < 32
  · rw [dif_pos ⟨by omega, h⟩, ← hd]; rfl
  · rw [dif_neg (by omega), show n = 31 from Fin.ext (by have : (31 : Fin 32).val = 31 := rfl; omega), hpad, soft_pad c hc]

theorem deriv_zero (c : EReal) (q : Fin 31 → EReal) : deriv c q 0 = 1 := by unfold deriv; rw [dif_neg (by omega)]

theorem deriv_pos (c : EReal) (q : Fin 31 → EReal) (n : ℕ) (h : 1 ≤ n) (h' : n < 32) :
    deriv c q n = soft (q ⟨n - 1, by omega⟩) + c := by unfold deriv; rw [dif_pos ⟨h, h'⟩]

/-! ## One row of the transform -/

/-- The widths' weights of a row of logits. -/
def wid (th : Fin 95 → ℝ) : Fin 32 → ℝ := wgt fun k => th ⟨k.val, by omega⟩

/-- The heights' weights. -/
def hei (th : Fin 95 → ℝ) : Fin 32 → ℝ := wgt fun k => th ⟨32 + k.val, by omega⟩

/-- The interior derivative logits. -/
def der (th : Fin 95 → ℝ) : Fin 31 → EReal := fun k => ((th ⟨64 + k.val, by omega⟩ : ℝ) : EReal)

/-- The transformed coordinate of a row with logits `th`. -/
def rowVal (c x : EReal) (th : Fin 95 → ℝ) : EReal :=
  let n := bin (wid th) x
  val x (knot (wid th) n : ℝ) (knot (wid th) (n + 1) : ℝ) (knot (hei th) n : ℝ) (knot (hei th) (n + 1) : ℝ)
    (deriv c (der th) n) (deriv c (der th) (n + 1))

/-- The transform's slope at that coordinate. -/
def rowSlope (c x : EReal) (th : Fin 95 → ℝ) : EReal :=
  let n := bin (wid th) x
  slope x (knot (wid th) n : ℝ) (knot (wid th) (n + 1) : ℝ) (knot (hei th) n : ℝ) (knot (hei th) (n + 1) : ℝ)
    (deriv c (der th) n) (deriv c (der th) (n + 1))

/-! ## Constants -/

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul, -EReal.coe_neg]; norm_num

/-- The smallest slope is a real number below one. -/
theorem ofBits_min : ∃ c : ℝ, c < 1 ∧ Ideal.ofBits .f32 0x3A83126F#32 = (c : EReal) := by
  refine ⟨8589935 / 8589934592, by norm_num, ?_⟩
  simp [Ideal.ofBits, Ideal.ieee, -EReal.coe_mul]; norm_num

/-- The smallest slope. -/
def least : ℝ := ofBits_min.choose

theorem least_lt : least < 1 := ofBits_min.choose_spec.1

theorem ofBits_least : Ideal.ofBits .f32 0x3A83126F#32 = (least : EReal) := ofBits_min.choose_spec.2

end Cert.Spline

end
-- ==== Proof.Network.lean ====
/- The network inside a block: the three matrix products over augmented weight matrices are the three dense layers,
   the biases riding on a row of ones. -/
module

public import proofs.«01_k».proof.Proof.Gen.KernelIdeal.Skeleton
public import Idealize.ShloMosaic.Lib.Pointwise
public import proofs.«01_k».proof.Proof.Spline

@[expose] public section

set_option maxRecDepth 16384

noncomputable section

namespace Cert.KernelIdeal.Block

open Idealize.ShloMosaic Idealize.ShloMosaic.TcCoe Idealize.SL.Sem
open Cert.KernelIdeal Cert.KernelIdeal.Gen
open Cert.Spline
open scoped BigOperators

/-- The first layer's augmented matrix: weights transposed, the bias as column 8, a one that makes row 64 carry it on. -/
structure Aug1 (w : Vec Ideal S72x9 .f32) (W : Fin 8 → Fin 64 → EReal) (b : Fin 64 → EReal) : Prop where
  weight : ∀ (a : Fin 64) (k : Fin 8), w (ix2 ⟨a.val, by omega⟩ ⟨k.val, by omega⟩) = W k a
  bias : ∀ a : Fin 64, w (ix2 ⟨a.val, by omega⟩ 8) = b a
  carry : ∀ k : Fin 8, w (ix2 64 ⟨k.val, by omega⟩) = (0 : EReal)
  one : w (ix2 64 8) = (1 : EReal)

/-- The second layer's: the bias is column 64, and the columns after it are zero. -/
structure Aug2 (w : Vec Ideal S72x72 .f32) (W : Fin 64 → Fin 64 → EReal) (b : Fin 64 → EReal) : Prop where
  weight : ∀ (a : Fin 64) (k : Fin 64), w (ix2 ⟨a.val, by omega⟩ ⟨k.val, by omega⟩) = W k a
  bias : ∀ a : Fin 64, w (ix2 ⟨a.val, by omega⟩ 64) = b a
  tail : ∀ (a : Fin 65) (k : Fin 7), w (ix2 ⟨a.val, by omega⟩ ⟨65 + k.val, by omega⟩) = (0 : EReal)
  carry : ∀ k : Fin 64, w (ix2 64 ⟨k.val, by omega⟩) = (0 : EReal)
  one : w (ix2 64 64) = (1 : EReal)

/-- The output layer's, with one row more than there are logits: it carries the pad. -/
structure Aug3 (w : Vec Ideal S96x72 .f32) (W : Fin 64 → Fin 95 → EReal) (b : Fin 95 → EReal) (pad : EReal) : Prop where
  weight : ∀ (a : Fin 95) (k : Fin 64), w (ix2 ⟨a.val, by omega⟩ ⟨k.val, by omega⟩) = W k a
  bias : ∀ a : Fin 95, w (ix2 ⟨a.val, by omega⟩ 64) = b a
  tail : ∀ (a : Fin 96) (k : Fin 7), w (ix2 a ⟨65 + k.val, by omega⟩) = (0 : EReal)
  carry : ∀ k : Fin 64, w (ix2 95 ⟨k.val, by omega⟩) = (0 : EReal)
  last : w (ix2 95 64) = pad

/-- Seventy-two terms: sixty-four, the one after them, and seven more. -/
theorem sum_72 (F : Fin 72 → EReal) :
    ∑ k, F k = ∑ k : Fin 64, F ⟨k.val, by omega⟩ + F 64 + ∑ k : Fin 7, F ⟨65 + k.val, by omega⟩ := by
  have h1 := Fin.sum_univ_add (M := EReal) (a := 64) (b := 8) F
  have h2 := Fin.sum_univ_add (M := EReal) (a := 1) (b := 7) (fun i => F (Fin.natAdd 64 i))
  rw [h1, h2, Fin.sum_univ_one, ← add_assoc]
  congr 1

/-- A column under a matrix whose columns after the 65th are zero. -/
theorem sum_aug (u h : Fin 72 → EReal) (ht : ∀ k : Fin 7, u ⟨65 + k.val, by omega⟩ = 0) (h1 : h 64 = 1) :
    ∑ k, u k * h k = ∑ k : Fin 64, h ⟨k.val, by omega⟩ * u ⟨k.val, by omega⟩ + u 64 := by
  rw [sum_72, h1, mul_one, Finset.sum_eq_zero (s := Finset.univ) (f := fun k : Fin 7 => _) (fun k _ => by rw [ht, zero_mul]), add_zero]
  exact congrArg (· + u 64) (Finset.sum_congr rfl fun k _ => mul_comm _ _)

variable {z : Vec Ideal S8x32768 .f32} {w1 : Vec Ideal S72x9 .f32} {w2 : Vec Ideal S72x72 .f32} {w3 : Vec Ideal S96x72 .f32}
  {W1 : Fin 8 → Fin 64 → EReal} {b1 : Fin 64 → EReal} {W2 : Fin 64 → Fin 64 → EReal} {b2 : Fin 64 → EReal}
  {W3 : Fin 64 → Fin 95 → EReal} {b3 : Fin 95 → EReal} {pad : EReal}

/-- Row `a` of the first hidden layer, at column `l`. -/
def hid1 (z : Vec Ideal S8x32768 .f32) (w1 : Vec Ideal S72x9 .f32) (l : Fin 32768) (a : Fin 72) : EReal :=
  max (∑ k : Fin 8, (show EReal from w1 (ix2 a ⟨k.val, by omega⟩)) * (show EReal from z (ix2 k l)) + w1 (ix2 a 8)) 0

/-- Row `a` of the second. -/
def hid2 (z : Vec Ideal S8x32768 .f32) (w1 : Vec Ideal S72x9 .f32) (w2 : Vec Ideal S72x72 .f32) (l : Fin 32768) (a : Fin 72) : EReal :=
  max (∑ k : Fin 72, (show EReal from w2 (ix2 a k)) * hid1 z w1 l k) 0

theorem pay2_ap (j : Fin 96) (l : Fin 32768) :
    k0_pay2 z w1 w2 w3 (ix2 j l) = ∑ k : Fin 72, (show EReal from w3 (ix2 j k)) * hid2 z w1 w2 l k := by
  pointwise [k0_pay2]
  refine Finset.sum_congr rfl fun k _ => congrArg (_ * ·) ?_
  unfold hid2
  refine congrArg (max · _) (Finset.sum_congr rfl fun k' _ => congrArg (_ * ·) ?_)
  unfold hid1
  rw [Fin.sum_univ_one]

theorem hid1_main (h : Aug1 w1 W1 b1) (l : Fin 32768) (a : Fin 64) :
    hid1 z w1 l ⟨a.val, by omega⟩ = relu (dense W1 b1 fun k => z (ix2 k l)) a := by
  unfold hid1 relu dense
  rw [h.bias]
  exact congrArg (fun s => max (s + b1 a) 0) (Finset.sum_congr rfl fun k _ => by rw [h.weight]; exact mul_comm _ _)

theorem hid1_one (h : Aug1 w1 W1 b1) (l : Fin 32768) : hid1 z w1 l 64 = 1 := by
  unfold hid1
  rw [h.one, Finset.sum_eq_zero fun k _ => by rw [h.carry]; exact zero_mul _]
  simp

theorem hid2_main (h : Aug1 w1 W1 b1) (h2 : Aug2 w2 W2 b2) (l : Fin 32768) (a : Fin 64) :
    hid2 z w1 w2 l ⟨a.val, by omega⟩ = relu (dense W2 b2 (relu (dense W1 b1 fun k => z (ix2 k l)))) a := by
  unfold hid2
  rw [sum_aug (fun k => (show EReal from w2 (ix2 ⟨a.val, by omega⟩ k))) (hid1 z w1 l) (fun k => h2.tail ⟨a.val, by omega⟩ k) (hid1_one h l)]
  unfold relu
  rw [dense]
  refine congrArg (max · 0) (congrArg₂ (· + ·) (Finset.sum_congr rfl fun k _ => ?_) (h2.bias a))
  exact congrArg₂ (· * ·) (hid1_main h l k) (h2.weight a k)

theorem hid2_one (h : Aug1 w1 W1 b1) (h2 : Aug2 w2 W2 b2) (l : Fin 32768) : hid2 z w1 w2 l 64 = 1 := by
  unfold hid2
  rw [sum_aug (fun k => (show EReal from w2 (ix2 64 k))) (hid1 z w1 l) (fun k => h2.tail 64 k) (hid1_one h l)]
  rw [Finset.sum_eq_zero fun k _ => by rw [h2.carry]; exact mul_zero _]
  show max (0 + (show EReal from w2 (ix2 64 64))) 0 = 1
  rw [h2.one]
  simp

/-- Rows `0` to `94` of the block's logits are the network's logits of that column. -/
theorem pay2_main (h : Aug1 w1 W1 b1) (h2 : Aug2 w2 W2 b2) (h3 : Aug3 w3 W3 b3 pad) (l : Fin 32768) (j : Fin 95) :
    k0_pay2 z w1 w2 w3 (ix2 ⟨j.val, by omega⟩ l) = logits W1 b1 W2 b2 W3 b3 (fun k => z (ix2 k l)) j := by
  rw [pay2_ap, sum_aug (fun k => (show EReal from w3 (ix2 ⟨j.val, by omega⟩ k))) (hid2 z w1 w2 l) (fun k => h3.tail ⟨j.val, by omega⟩ k) (hid2_one h h2 l)]
  unfold logits
  rw [dense]
  refine congrArg₂ (· + ·) (Finset.sum_congr rfl fun k _ => ?_) (h3.bias j)
  exact congrArg₂ (· * ·) (hid2_main h h2 l k) (h3.weight j k)

/-- Its last row is the pad. -/
theorem pay2_pad (h : Aug1 w1 W1 b1) (h2 : Aug2 w2 W2 b2) (h3 : Aug3 w3 W3 b3 pad) (l : Fin 32768) :
    k0_pay2 z w1 w2 w3 (ix2 95 l) = pad := by
  rw [pay2_ap, sum_aug (fun k => (show EReal from w3 (ix2 95 k))) (hid2 z w1 w2 l) (fun k => h3.tail 95 k) (hid2_one h h2 l)]
  rw [Finset.sum_eq_zero fun k _ => by rw [h3.carry]; exact mul_zero _]
  exact (zero_add _).trans h3.last

end Cert.KernelIdeal.Block

end
-- ==== Proof.Host.lean ====
module
public import proofs.«01_k».proof.Proof.Gen.KernelIdeal.Value
public import proofs.«01_k».proof.Proof.Network
public import Idealize.ShloMosaic.Lib.Pointwise
public import Idealize.ShloMosaic.Lib.Claim
public import Idealize.ShloMosaic.Lib.Routing.OpsSet
@[expose] public section
set_option maxRecDepth 16384
noncomputable section

/-! # What the host hands the kernel: the augmented weights, the transposed rows and the row of coordinates -/

namespace Cert.KernelIdeal.Host
open Idealize.ShloMosaic Idealize.ShloMosaic.TcCoe Idealize.SL.Sem
open Cert.KernelIdeal Cert.KernelIdeal.Gen Cert.KernelIdeal.Block Cert.Spline

/-! ## Setting a part of a matrix -/

/-- A set, read at an element that at most one update `k` reaches: exactly when `P`. -/
theorem set_if {s si u : Shape} {w : ℕ} (d : ScatterDims s si u) (x0 : FVec Ideal s .f32) (idx : IVec si w) (upd : FVec Ideal u .f32) (i : s.Idx)
    (P : Prop) [Decidable P] (k : P → u.Idx) (hk : ∀ k', d.resultIdx? k' idx = some i ↔ ∃ h : P, k' = k h) :
    Host.scatter d (fun _ b => b) x0 idx upd i = if h : P then upd (k h) else x0 i := by
  by_cases h : P
  · rw [dif_pos h]
    exact Routing.scatter_set_hit d x0 idx upd i _ (fun k' hk' => by obtain ⟨_, rfl⟩ := (hk k').1 hk'; rfl) (k h) ((hk _).2 ⟨h, rfl⟩)
  · rw [dif_neg h]
    exact Routing.scatter_set_miss d x0 idx upd i fun k' hk' => h ((hk k').1 hk').1

/-- A two-word position. -/
def spot (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

theorem spot_0 (a b : BitVec 32) : spot a b (ix1 0) = a := rfl
theorem spot_1 (a b : BitVec 32) : spot a b (ix1 1) = b := rfl

/-- A one-word position. -/
def mark (a : BitVec 32) : IVec S1 32 := broadcastInDim S1 ![] bcast_S_S1 (constantI S_ 32 a)

/-! ### The first layer's matrix -/

theorem weight1_start (idx : IVec S2 32) (k : S64x8.Idx) :
    scatter_S72x9_S2_S64x8_01_n_01_0.start k idx 0 = (idx (ix1 0)).toInt ∧ scatter_S72x9_S2_S64x8_01_n_01_0.start k idx 1 = (idx (ix1 1)).toInt := by
  unfold ScatterDims.start
  rw [dif_pos (by decide), dif_pos (by decide)]
  exact ⟨congrArg (fun i => (idx i).toInt) (funext fun a => match a with | 0 => rfl),
    congrArg (fun i => (idx i).toInt) (funext fun a => match a with | 0 => rfl)⟩

theorem weight1_set (x0 : FVec Ideal S72x9 .f32) (upd : FVec Ideal S64x8 .f32) (r : Fin 72) (c : Fin 9) :
    Host.scatter scatter_S72x9_S2_S64x8_01_n_01_0 (fun _ b => b) x0 (spot 0#32 0#32) upd (ix2 r c)
      = if h : r.val < 64 ∧ c.val < 8 then upd (ix2 ⟨r.val, h.1⟩ ⟨c.val, h.2⟩) else x0 (ix2 r c) := by
  refine set_if _ x0 _ upd _ _ (fun h => ix2 ⟨r.val, h.1⟩ ⟨c.val, h.2⟩) fun k' => ?_
  refine (Routing.resultIdx?_ix2 (R := 72) (C := 9) scatter_S72x9_S2_S64x8_01_n_01_0 k' _ r c).trans ?_
  rw [(weight1_start _ k').1, (weight1_start _ k').2, spot_0, spot_1]
  have h0 : scatter_S72x9_S2_S64x8_01_n_01_0.window k' 0 = (k' 0).val := rfl
  have h1 : scatter_S72x9_S2_S64x8_01_n_01_0.window k' 1 = (k' 1).val := rfl
  rw [h0, h1]
  have hz : (0#32 : BitVec 32).toInt = 0 := by decide
  have hz1 : (0#32 : BitVec 32).toInt = 0 := by decide
  have b0 : (k' 0).val < 64 := (k' 0).isLt
  have b1 : (k' 1).val < 8 := (k' 1).isLt
  simp only [hz, hz1]
  constructor
  · rintro ⟨e0, e1⟩
    refine ⟨⟨by omega, by omega⟩, funext fun a => Fin.ext ?_⟩
    match a with
    | 0 => show (k' 0).val = r.val; omega
    | 1 => show (k' 1).val = c.val; omega
  · rintro ⟨h, e⟩
    have e0 : (k' 0).val = r.val := by rw [e]; rfl
    have e1 : (k' 1).val = c.val := by rw [e]; rfl
    omega

theorem bias1_start (idx : IVec S2 32) (k : S64.Idx) :
    scatter_S72x9_S2_S64_0_1_01_0.start k idx 0 = (idx (ix1 0)).toInt ∧ scatter_S72x9_S2_S64_0_1_01_0.start k idx 1 = (idx (ix1 1)).toInt := by
  unfold ScatterDims.start
  rw [dif_pos (by decide), dif_pos (by decide)]
  exact ⟨congrArg (fun i => (idx i).toInt) (funext fun a => match a with | 0 => rfl),
    congrArg (fun i => (idx i).toInt) (funext fun a => match a with | 0 => rfl)⟩

theorem bias1_set (x0 : FVec Ideal S72x9 .f32) (upd : FVec Ideal S64 .f32) (r : Fin 72) (c : Fin 9) :
    Host.scatter scatter_S72x9_S2_S64_0_1_01_0 (fun _ b => b) x0 (spot 0#32 8#32) upd (ix2 r c)
      = if h : r.val < 64 ∧ c.val = 8 then upd (ix1 ⟨r.val, h.1⟩) else x0 (ix2 r c) := by
  refine set_if _ x0 _ upd _ _ (fun h => ix1 ⟨r.val, h.1⟩) fun k' => ?_
  refine (Routing.resultIdx?_ix2 (R := 72) (C := 9) scatter_S72x9_S2_S64_0_1_01_0 k' _ r c).trans ?_
  rw [(bias1_start _ k').1, (bias1_start _ k').2, spot_0, spot_1]
  have h0 : scatter_S72x9_S2_S64_0_1_01_0.window k' 0 = (k' 0).val := rfl
  have h1 : scatter_S72x9_S2_S64_0_1_01_0.window k' 1 = 0 := rfl
  rw [h0, h1]
  have hz : (0#32 : BitVec 32).toInt = 0 := by decide
  have hz1 : (8#32 : BitVec 32).toInt = 8 := by decide
  have b0 : (k' 0).val < 64 := (k' 0).isLt
  simp only [hz, hz1]
  constructor
  · rintro ⟨e0, e1⟩
    refine ⟨⟨by omega, by omega⟩, funext fun a => Fin.ext ?_⟩
    match a with
    | 0 => show (k' 0).val = r.val; omega
  · rintro ⟨h, e⟩
    have e0 : (k' 0).val = r.val := by rw [e]; rfl
    omega

theorem one1_start (idx : IVec S2 32) (k : S_.Idx) :
    scatter_S72x9_S2_S__n_01_01_0.start k idx 0 = (idx (ix1 0)).toInt ∧ scatter_S72x9_S2_S__n_01_01_0.start k idx 1 = (idx (ix1 1)).toInt := by
  unfold ScatterDims.start
  rw [dif_pos (by decide), dif_pos (by decide)]
  exact ⟨congrArg (fun i => (idx i).toInt) (funext fun a => match a with | 0 => rfl),
    congrArg (fun i => (idx i).toInt) (funext fun a => match a with | 0 => rfl)⟩

theorem one1_set (x0 : FVec Ideal S72x9 .f32) (upd : FVec Ideal S_ .f32) (r : Fin 72) (c : Fin 9) :
    Host.scatter scatter_S72x9_S2_S__n_01_01_0 (fun _ b => b) x0 (spot 64#32 8#32) upd (ix2 r c)
      = if h : r.val = 64 ∧ c.val = 8 then upd ix0 else x0 (ix2 r c) := by
  refine set_if _ x0 _ upd _ _ (fun h => ix0) fun k' => ?_
  refine (Routing.resultIdx?_ix2 (R := 72) (C := 9) scatter_S72x9_S2_S__n_01_01_0 k' _ r c).trans ?_
  rw [(one1_start _ k').1, (one1_start _ k').2, spot_0, spot_1]
  have h0 : scatter_S72x9_S2_S__n_01_01_0.window k' 0 = 0 := rfl
  have h1 : scatter_S72x9_S2_S__n_01_01_0.window k' 1 = 0 := rfl
  rw [h0, h1]
  have hz : (64#32 : BitVec 32).toInt = 64 := by decide
  have hz1 : (8#32 : BitVec 32).toInt = 8 := by decide
  simp only [hz, hz1]
  constructor
  · rintro ⟨e0, e1⟩
    exact ⟨⟨by omega, by omega⟩, funext fun a => a.elim0⟩
  · rintro ⟨h, e⟩
    omega

/-! ### The second layer's -/

theorem weight2_start (idx : IVec S2 32) (k : S64x64.Idx) :
    scatter_S72x72_S2_S64x64_01_n_01_0.start k idx 0 = (idx (ix1 0)).toInt ∧ scatter_S72x72_S2_S64x64_01_n_01_0.start k idx 1 = (idx (ix1 1)).toInt := by
  unfold ScatterDims.start
  rw [dif_pos (by decide), dif_pos (by decide)]
  exact ⟨congrArg (fun i => (idx i).toInt) (funext fun a => match a with | 0 => rfl),
    congrArg (fun i => (idx i).toInt) (funext fun a => match a with | 0 => rfl)⟩

theorem weight2_set (x0 : FVec Ideal S72x72 .f32) (upd : FVec Ideal S64x64 .f32) (r : Fin 72) (c : Fin 72) :
    Host.scatter scatter_S72x72_S2_S64x64_01_n_01_0 (fun _ b => b) x0 (spot 0#32 0#32) upd (ix2 r c)
      = if h : r.val < 64 ∧ c.val < 64 then upd (ix2 ⟨r.val, h.1⟩ ⟨c.val, h.2⟩) else x0 (ix2 r c) := by
  refine set_if _ x0 _ upd _ _ (fun h => ix2 ⟨r.val, h.1⟩ ⟨c.val, h.2⟩) fun k' => ?_
  refine (Routing.resultIdx?_ix2 (R := 72) (C := 72) scatter_S72x72_S2_S64x64_01_n_01_0 k' _ r c).trans ?_
  rw [(weight2_start _ k').1, (weight2_start _ k').2, spot_0, spot_1]
  have h0 : scatter_S72x72_S2_S64x64_01_n_01_0.window k' 0 = (k' 0).val := rfl
  have h1 : scatter_S72x72_S2_S64x64_01_n_01_0.window k' 1 = (k' 1).val := rfl
  rw [h0, h1]
  have hz : (0#32 : BitVec 32).toInt = 0 := by decide
  have hz1 : (0#32 : BitVec 32).toInt = 0 := by decide
  have b0 : (k' 0).val < 64 := (k' 0).isLt
  have b1 : (k' 1).val < 64 := (k' 1).isLt
  simp only [hz, hz1]
  constructor
  · rintro ⟨e0, e1⟩
    refine ⟨⟨by omega, by omega⟩, funext fun a => Fin.ext ?_⟩
    match a with
    | 0 => show (k' 0).val = r.val; omega
    | 1 => show (k' 1).val = c.val; omega
  · rintro ⟨h, e⟩
    have e0 : (k' 0).val = r.val := by rw [e]; rfl
    have e1 : (k' 1).val = c.val := by rw [e]; rfl
    omega

theorem bias2_start (idx : IVec S2 32) (k : S64.Idx) :
    scatter_S72x72_S2_S64_0_1_01_0.start k idx 0 = (idx (ix1 0)).toInt ∧ scatter_S72x72_S2_S64_0_1_01_0.start k idx 1 = (idx (ix1 1)).toInt := by
  unfold ScatterDims.start
  rw [dif_pos (by decide), dif_pos (by decide)]
  exact ⟨congrArg (fun i => (idx i).toInt) (funext fun a => match a with | 0 => rfl),
    congrArg (fun i => (idx i).toInt) (funext fun a => match a with | 0 => rfl)⟩

theorem bias2_set (x0 : FVec Ideal S72x72 .f32) (upd : FVec Ideal S64 .f32) (r : Fin 72) (c : Fin 72) :
    Host.scatter scatter_S72x72_S2_S64_0_1_01_0 (fun _ b => b) x0 (spot 0#32 64#32) upd (ix2 r c)
      = if h : r.val < 64 ∧ c.val = 64 then upd (ix1 ⟨r.val, h.1⟩) else x0 (ix2 r c) := by
  refine set_if _ x0 _ upd _ _ (fun h => ix1 ⟨r.val, h.1⟩) fun k' => ?_
  refine (Routing.resultIdx?_ix2 (R := 72) (C := 72) scatter_S72x72_S2_S64_0_1_01_0 k' _ r c).trans ?_
  rw [(bias2_start _ k').1, (bias2_start _ k').2, spot_0, spot_1]
  have h0 : scatter_S72x72_S2_S64_0_1_01_0.window k' 0 = (k' 0).val := rfl
  have h1 : scatter_S72x72_S2_S64_0_1_01_0.window k' 1 = 0 := rfl
  rw [h0, h1]
  have hz : (0#32 : BitVec 32).toInt = 0 := by decide
  have hz1 : (64#32 : BitVec 32).toInt = 64 := by decide
  have b0 : (k' 0).val < 64 := (k' 0).isLt
  simp only [hz, hz1]
  constructor
  · rintro ⟨e0, e1⟩
    refine ⟨⟨by omega, by omega⟩, funext fun a => Fin.ext ?_⟩
    match a with
    | 0 => show (k' 0).val = r.val; omega
  · rintro ⟨h, e⟩
    have e0 : (k' 0).val = r.val := by rw [e]; rfl
    omega

theorem one2_start (idx : IVec S2 32) (k : S_.Idx) :
    scatter_S72x72_S2_S__n_01_01_0.start k idx 0 = (idx (ix1 0)).toInt ∧ scatter_S72x72_S2_S__n_01_01_0.start k idx 1 = (idx (ix1 1)).toInt := by
  unfold ScatterDims.start
  rw [dif_pos (by decide), dif_pos (by decide)]
  exact ⟨congrArg (fun i => (idx i).toInt) (funext fun a => match a with | 0 => rfl),
    congrArg (fun i => (idx i).toInt) (funext fun a => match a with | 0 => rfl)⟩

theorem one2_set (x0 : FVec Ideal S72x72 .f32) (upd : FVec Ideal S_ .f32) (r : Fin 72) (c : Fin 72) :
    Host.scatter scatter_S72x72_S2_S__n_01_01_0 (fun _ b => b) x0 (spot 64#32 64#32) upd (ix2 r c)
      = if h : r.val = 64 ∧ c.val = 64 then upd ix0 else x0 (ix2 r c) := by
  refine set_if _ x0 _ upd _ _ (fun h => ix0) fun k' => ?_
  refine (Routing.resultIdx?_ix2 (R := 72) (C := 72) scatter_S72x72_S2_S__n_01_01_0 k' _ r c).trans ?_
  rw [(one2_start _ k').1, (one2_start _ k').2, spot_0, spot_1]
  have h0 : scatter_S72x72_S2_S__n_01_01_0.window k' 0 = 0 := rfl
  have h1 : scatter_S72x72_S2_S__n_01_01_0.window k' 1 = 0 := rfl
  rw [h0, h1]
  have hz : (64#32 : BitVec 32).toInt = 64 := by decide
  have hz1 : (64#32 : BitVec 32).toInt = 64 := by decide
  simp only [hz, hz1]
  constructor
  · rintro ⟨e0, e1⟩
    exact ⟨⟨by omega, by omega⟩, funext fun a => a.elim0⟩
  · rintro ⟨h, e⟩
    omega

/-! ### The output layer's -/

theorem weight3_start (idx : IVec S1 32) (k : S96x64.Idx) :
    scatter_S96x72_S1_S96x64_01_n_1_0.start k idx 0 = 0 ∧ scatter_S96x72_S1_S96x64_01_n_1_0.start k idx 1 = (idx (ix1 0)).toInt := by
  unfold ScatterDims.start
  rw [dif_neg (by decide), dif_pos (by decide)]
  exact ⟨rfl, congrArg (fun i => (idx i).toInt) (funext fun a => match a with | 0 => rfl)⟩

theorem weight3_set (x0 : FVec Ideal S96x72 .f32) (upd : FVec Ideal S96x64 .f32) (r : Fin 96) (c : Fin 72) :
    Host.scatter scatter_S96x72_S1_S96x64_01_n_1_0 (fun _ b => b) x0 (mark 0#32) upd (ix2 r c)
      = if h : c.val < 64 then upd (ix2 r ⟨c.val, h⟩) else x0 (ix2 r c) := by
  refine set_if _ x0 _ upd _ _ (fun h => ix2 r ⟨c.val, h⟩) fun k' => ?_
  refine (Routing.resultIdx?_ix2 (R := 96) (C := 72) scatter_S96x72_S1_S96x64_01_n_1_0 k' _ r c).trans ?_
  rw [(weight3_start _ k').1, (weight3_start _ k').2]
  have h0 : scatter_S96x72_S1_S96x64_01_n_1_0.window k' 0 = (k' 0).val := rfl
  have h1 : scatter_S96x72_S1_S96x64_01_n_1_0.window k' 1 = (k' 1).val := rfl
  rw [h0, h1]
  have hz : (mark 0#32 (ix1 0)).toInt = 0 := by decide
  have b1 : (k' 1).val < 64 := (k' 1).isLt
  rw [hz]
  constructor
  · rintro ⟨e0, e1⟩
    refine ⟨by omega, funext fun a => Fin.ext ?_⟩
    match a with
    | 0 => show (k' 0).val = r.val; omega
    | 1 => show (k' 1).val = c.val; omega
  · rintro ⟨h, e⟩
    have e0 : (k' 0).val = r.val := by rw [e]; rfl
    have e1 : (k' 1).val = c.val := by rw [e]; rfl
    omega

theorem bias3_start (idx : IVec S1 32) (k : S96.Idx) :
    scatter_S96x72_S1_S96_0_1_1_0.start k idx 0 = 0 ∧ scatter_S96x72_S1_S96_0_1_1_0.start k idx 1 = (idx (ix1 0)).toInt := by
  unfold ScatterDims.start
  rw [dif_neg (by decide), dif_pos (by decide)]
  exact ⟨rfl, congrArg (fun i => (idx i).toInt) (funext fun a => match a with | 0 => rfl)⟩

theorem bias3_set (x0 : FVec Ideal S96x72 .f32) (upd : FVec Ideal S96 .f32) (r : Fin 96) (c : Fin 72) :
    Host.scatter scatter_S96x72_S1_S96_0_1_1_0 (fun _ b => b) x0 (mark 64#32) upd (ix2 r c)
      = if h : c.val = 64 then upd (ix1 r) else x0 (ix2 r c) := by
  refine set_if _ x0 _ upd _ _ (fun h => ix1 r) fun k' => ?_
  refine (Routing.resultIdx?_ix2 (R := 96) (C := 72) scatter_S96x72_S1_S96_0_1_1_0 k' _ r c).trans ?_
  rw [(bias3_start _ k').1, (bias3_start _ k').2]
  have h0 : scatter_S96x72_S1_S96_0_1_1_0.window k' 0 = (k' 0).val := rfl
  have h1 : scatter_S96x72_S1_S96_0_1_1_0.window k' 1 = 0 := rfl
  rw [h0, h1]
  have hz : (mark 64#32 (ix1 0)).toInt = 64 := by decide
  rw [hz]
  constructor
  · rintro ⟨e0, e1⟩
    refine ⟨by omega, funext fun a => Fin.ext ?_⟩
    match a with
    | 0 => show (k' 0).val = r.val; omega
  · rintro ⟨h, e⟩
    have e0 : (k' 0).val = r.val := by rw [e]; rfl
    omega

/-! ## The augmented weights -/

variable (m : (ℓ : Loc nD τ sig) → Buf (Elt Ideal) ℓ)

/-- The first layer's augmented matrix. -/
def mat1 (W : FVec Ideal S8x64 .f32) (b : FVec Ideal S64 .f32) : FVec Ideal S72x9 .f32 :=
  Host.scatter scatter_S72x9_S2_S__n_01_01_0 (fun _ b => b)
    (Host.scatter scatter_S72x9_S2_S64_0_1_01_0 (fun _ b => b)
      (Host.scatter scatter_S72x9_S2_S64x8_01_n_01_0 (fun _ b => b) (broadcastInDim S72x9 ![] bcast_S_S72x9 (constant S_ .f32 0x00000000#32))
        (spot 0#32 0#32) (transpose S64x8 [1, 0] W transposes_S8x64_S64x8_1_0))
      (spot 0#32 8#32) b)
    (spot 64#32 8#32) (constant S_ .f32 0x3F800000#32)

theorem read1 (c : Dev nD) : V m c main_call0_v20 = mat1 (m ((c : Thread nD τ).loc main_arg2)) (m ((c : Thread nD τ).loc main_arg3)) := by
  entry_read
  simp -implicitDefEqProofs only [StableHlo.TRef.toBuf, StableHlo.TRef.ofBuf, cast_cast, cast_eq]
  rfl

/-- The second layer's augmented matrix. -/
def mat2 (W : FVec Ideal S64x64 .f32) (b : FVec Ideal S64 .f32) : FVec Ideal S72x72 .f32 :=
  Host.scatter scatter_S72x72_S2_S__n_01_01_0 (fun _ b => b)
    (Host.scatter scatter_S72x72_S2_S64_0_1_01_0 (fun _ b => b)
      (Host.scatter scatter_S72x72_S2_S64x64_01_n_01_0 (fun _ b => b) (broadcastInDim S72x72 ![] bcast_S_S72x72 (constant S_ .f32 0x00000000#32))
        (spot 0#32 0#32) (transpose S64x64 [1, 0] W transposes_S64x64_S64x64_1_0))
      (spot 0#32 64#32) b)
    (spot 64#32 64#32) (constant S_ .f32 0x3F800000#32)

theorem read2 (c : Dev nD) : V m c main_call0_v34 = mat2 (m ((c : Thread nD τ).loc main_arg4)) (m ((c : Thread nD τ).loc main_arg5)) := by
  entry_read
  simp -implicitDefEqProofs only [StableHlo.TRef.toBuf, StableHlo.TRef.ofBuf, cast_cast, cast_eq]
  rfl

/-- The pad. -/
def pad : FVec Ideal S_ .f32 := Host.log (Host.expm1 (subf (constant S_ .f32 0x3F800000#32) (constant S_ .f32 0x3A83126F#32)))

/-- The output layer's augmented matrix. -/
def mat3 (W : FVec Ideal S64x95 .f32) (b : FVec Ideal S95 .f32) : FVec Ideal S96x72 .f32 :=
  Host.scatter scatter_S96x72_S1_S96_0_1_1_0 (fun _ b => b)
    (Host.scatter scatter_S96x72_S1_S96x64_01_n_1_0 (fun _ b => b) (broadcastInDim S96x72 ![] bcast_S_S96x72 (constant S_ .f32 0x00000000#32))
      (mark 0#32)
      (transpose S96x64 [1, 0] (concatenate S64x96 1 [⟨S64x95, W⟩, ⟨S64x1, broadcastInDim S64x1 ![] bcast_S_S64x1 (constant S_ .f32 0x00000000#32)⟩]
        concatenates_S64x95_S64x1_S64x96_d1) transposes_S64x96_S96x64_1_0))
    (mark 64#32) (concatenate S96 0 [⟨S95, b⟩, ⟨S1, broadcastInDim S1 ![] bcast_S_S1 pad⟩] concatenates_S95_S1_S96_d0)

theorem read3 (c : Dev nD) : V m c main_call0_v40 = mat3 (m ((c : Thread nD τ).loc main_arg6)) (m ((c : Thread nD τ).loc main_arg7)) := by
  entry_read
  simp -implicitDefEqProofs only [StableHlo.TRef.toBuf, StableHlo.TRef.ofBuf, cast_cast, cast_eq]
  rfl

theorem read_rows (c : Dev nD) : V m c main_call0_v41
    = transpose S8x524288 [1, 0] (show FVec Ideal S524288x8 .f32 from m ((c : Thread nD τ).loc main_arg1)) transposes_S524288x8_S8x524288_1_0 := by
  entry_read
  simp -implicitDefEqProofs only [StableHlo.TRef.toBuf, StableHlo.TRef.ofBuf, cast_cast, cast_eq]

theorem read_coords (c : Dev nD) : V m c main_call0_v42
    = shapeCast S1x524288 (show FVec Ideal S524288x1 .f32 from m ((c : Thread nD τ).loc main_arg0)) shapeCasts_S524288x1_S1x524288 := by
  entry_read
  simp -implicitDefEqProofs only [StableHlo.TRef.toBuf, StableHlo.TRef.ofBuf, cast_cast, cast_eq]
  rfl

/-- What the first layer's matrix holds. -/
theorem aug1 (W : FVec Ideal S8x64 .f32) (b : FVec Ideal S64 .f32) : Aug1 (mat1 W b) (fun k a => W (ix2 k a)) (fun a => b (ix1 a)) where
  weight a k := by
    unfold mat1
    rw [one1_set, bias1_set, weight1_set, dif_neg (fun h => by have h1 : a.val = 64 := h.1; omega), dif_neg (fun h => by have h1 : k.val = 8 := h.2; omega),
      dif_pos ⟨a.isLt, k.isLt⟩]
    pointwise []
  bias a := by
    unfold mat1
    rw [one1_set, bias1_set, dif_neg (fun h => by have h1 : a.val = 64 := h.1; omega), dif_pos ⟨a.isLt, rfl⟩]
  carry k := by
    unfold mat1
    rw [one1_set, bias1_set, weight1_set, dif_neg (fun h => by have h1 : k.val = 8 := h.2; omega), dif_neg (fun h => absurd h.1 (by decide)),
      dif_neg (fun h => absurd h.1 (by decide))]
    pointwise []
  one := by
    unfold mat1
    rw [one1_set, dif_pos ⟨rfl, rfl⟩]
    pointwise []

/-- What the second layer's holds. -/
theorem aug2 (W : FVec Ideal S64x64 .f32) (b : FVec Ideal S64 .f32) : Aug2 (mat2 W b) (fun k a => W (ix2 k a)) (fun a => b (ix1 a)) where
  weight a k := by
    unfold mat2
    rw [one2_set, bias2_set, weight2_set, dif_neg (fun h => by have h1 : a.val = 64 := h.1; omega), dif_neg (fun h => by have h1 : k.val = 64 := h.2; omega),
      dif_pos ⟨a.isLt, k.isLt⟩]
    pointwise []
  bias a := by
    unfold mat2
    rw [one2_set, bias2_set, dif_neg (fun h => by have h1 : a.val = 64 := h.1; omega), dif_pos ⟨a.isLt, rfl⟩]
  tail a k := by
    unfold mat2
    rw [one2_set, bias2_set, weight2_set, dif_neg (fun h => by have h1 : 65 + k.val = 64 := h.2; omega), dif_neg (fun h => by have h1 : 65 + k.val = 64 := h.2; omega),
      dif_neg (fun h => by have h1 : 65 + k.val < 64 := h.2; omega)]
    pointwise []
  carry k := by
    unfold mat2
    rw [one2_set, bias2_set, weight2_set, dif_neg (fun h => by have h1 : k.val = 64 := h.2; omega), dif_neg (fun h => absurd h.1 (by decide)),
      dif_neg (fun h => absurd h.1 (by decide))]
    pointwise []
  one := by
    unfold mat2
    rw [one2_set, dif_pos ⟨rfl, rfl⟩]
    pointwise []

/-- The pad is the real number that the soft plus takes to one less the smallest slope. -/
theorem pad_eq : pad ix0 = ((Real.log (Real.exp (1 - least) - 1) : ℝ) : EReal) := by
  pointwise [pad]
  rw [ofBits_least]
  exact pad_value least least_lt

/-- What the output layer's holds. -/
theorem aug3 (W : FVec Ideal S64x95 .f32) (b : FVec Ideal S95 .f32) :
    Aug3 (mat3 W b) (fun k a => W (ix2 k a)) (fun a => b (ix1 a)) ((Real.log (Real.exp (1 - least) - 1) : ℝ) : EReal) where
  weight a k := by
    unfold mat3
    rw [bias3_set, weight3_set, dif_neg (fun h => by have h1 : k.val = 64 := h; omega), dif_pos k.isLt]
    pointwise []
  bias a := by
    unfold mat3
    rw [bias3_set, dif_pos (show (64 : Fin 72).val = 64 from rfl)]
    pointwise []
  tail a k := by
    unfold mat3
    rw [bias3_set, weight3_set, dif_neg (fun h => by have h1 : 65 + k.val = 64 := h; omega), dif_neg (fun h => by have h1 : 65 + k.val < 64 := h; omega)]
    pointwise []
  carry k := by
    unfold mat3
    rw [bias3_set, weight3_set, dif_neg (fun h => by have h1 : k.val = 64 := h; omega), dif_pos k.isLt]
    pointwise []
  last := by
    rw [← pad_eq]
    unfold mat3
    rw [bias3_set, dif_pos (show (64 : Fin 72).val = 64 from rfl)]
    pointwise []

end Cert.KernelIdeal.Host
end
-- ==== Proof.Block.lean ====
/- What one block computes: at each column, the value and the slope of the spline of that column's logits. -/
module

public import proofs.«01_k».proof.Proof.Network
public import Idealize.ShloMosaic.Lib.Pipeline.Value

@[expose] public section

set_option maxRecDepth 16384

noncomputable section

namespace Cert.KernelIdeal.Block

open Idealize.ShloMosaic Idealize.ShloMosaic.TcCoe Idealize.SL.Sem
open Cert.KernelIdeal Cert.KernelIdeal.Gen
open Cert.Spline
open scoped BigOperators

/-! ## Weights and prefix sums of a column -/

section Logits
variable {z : Vec Ideal S8x32768 .f32} {w1 : Vec Ideal S72x9 .f32} {w2 : Vec Ideal S72x72 .f32} {w3 : Vec Ideal S96x72 .f32}

theorem pay3_ap (j : Fin 32) (l : Fin 32768) : k0_pay3 z w1 w2 w3 (ix2 j l) = k0_pay2 z w1 w2 w3 (ix2 ⟨64 + j.val, by omega⟩ l) := by
  pointwise [k0_pay3]

theorem pay4_ap (f : Fin 32 → ℝ) (l : Fin 32768) (hf : ∀ j : Fin 32, k0_pay2 z w1 w2 w3 (ix2 ⟨j.val, by omega⟩ l) = ((f j : ℝ) : EReal))
    (j : Fin 32) : k0_pay4 z w1 w2 w3 (ix2 j l) = ((wgt f j : ℝ) : EReal) := by
  pointwise [k0_pay4]
  simp only [hf]
  rw [ofBits_neg_inf, fold_top, exp_wgt]

theorem pay5_ap (f : Fin 32 → ℝ) (l : Fin 32768) (hf : ∀ j : Fin 32, k0_pay2 z w1 w2 w3 (ix2 ⟨32 + j.val, by omega⟩ l) = ((f j : ℝ) : EReal))
    (j : Fin 32) : k0_pay5 z w1 w2 w3 (ix2 j l) = ((wgt f j : ℝ) : EReal) := by
  pointwise [k0_pay5]
  simp only [hf]
  rw [ofBits_neg_inf, fold_top, exp_wgt]

/-- The triangle of ones as words. -/
theorem triangle : ∀ j x : Fin 32,
    (BitVec.setWidth 32 (IntOp.cmpi CmpIPredicate.sge (BitVec.ofNat 32 j.val) (BitVec.ofNat 32 x.val))).toInt
      = if x.val < j.val + 1 then 1 else 0 := by decide +kernel

theorem pay6_ap (e : Fin 32 → ℝ) (l : Fin 32768) (he : ∀ j : Fin 32, k0_pay4 z w1 w2 w3 (ix2 j l) = ((e j : ℝ) : EReal))
    (j : Fin 32) : k0_pay6 z w1 w2 w3 (ix2 j l) = ((pre e (j.val + 1) : ℝ) : EReal) := by
  pointwise [k0_pay6]
  rw [← sum_before, ← coe_sum]
  refine Finset.sum_congr rfl fun x _ => ?_
  rw [he, EReal.coe_mul]
  refine congrArg (· * ((e x : ℝ) : EReal)) ?_
  show (((BitVec.setWidth 32 (IntOp.cmpi CmpIPredicate.sge (BitVec.ofNat 32 j.val) (BitVec.ofNat 32 x.val))).toInt : ℝ) : EReal) = _
  rw [triangle]
  split <;> simp

end Logits

/-! ## The mask of the bins that end before the coordinate -/

/-- A column's data, as the block's vectors hold them at column `l`. -/
structure Column (l : Fin 32768) (v19 v24 v29 v35 : FVec Ideal S32x32768 .f32) (v37 v38 : FVec Ideal S1x32768 .f32)
    (d e g : Fin 32 → ℝ) (x : EReal) : Prop where
  der : ∀ j : Fin 32, v19 (ix2 j l) = ((d j : ℝ) : EReal)
  wid : ∀ j : Fin 32, v24 (ix2 j l) = ((e j : ℝ) : EReal)
  hei : ∀ j : Fin 32, v29 (ix2 j l) = ((g j : ℝ) : EReal)
  cum : ∀ j : Fin 32, v35 (ix2 j l) = ((pre e (j.val + 1) : ℝ) : EReal)
  coord : v37 (ix2 0 l) = x
  ones : v38 (ix2 0 l) = (1 : EReal)
  pos : ∀ j, 0 < e j
  pos' : ∀ j, 0 < g j
  le : x ≤ 1

variable {l : Fin 32768} {v19 v24 v29 v35 : FVec Ideal S32x32768 .f32} {v37 v38 : FVec Ideal S1x32768 .f32}
  {d e g : Fin 32 → ℝ} {x : EReal}

/-- One below `n`, zero from `n` on. -/
def step (n j : ℕ) : ℝ := if j < n then 1 else 0

theorem pay9_ap (h : Column l v19 v24 v29 v35 v37 v38 d e g x) (j : Fin 32) :
    k0_pay9 v35 v37 v38 (ix2 j l) = ((step (bin e x) j.val : ℝ) : EReal) := by
  pointwise [k0_pay9]
  rw [h.cum, h.coord, h.ones, h.cum 31, ofBits_half]
  have hb := below_iff e x j h.pos
  unfold Below at hb
  have h31 : (31 : Fin 32).val + 1 = 32 := rfl
  rw [h31]
  unfold step
  by_cases hj : j.val < bin e x
  · rw [if_pos hj, decide_eq_true (hb.mpr hj)]
    show (((1 : ℤ) : ℝ) : EReal) = _
    simp
  · rw [if_neg hj, decide_eq_false (fun hh => hj (hb.mp hh))]
    show (((0 : ℤ) : ℝ) : EReal) = _
    simp

theorem pay10_ap (h : Column l v19 v24 v29 v35 v37 v38 d e g x) (j : Fin 32) :
    k0_pay10 v35 v37 v38 (ix2 j l) = (((if j.val = bin e x then 1 else 0 : ℝ)) : EReal) := by
  pointwise [k0_pay10]
  have hn := bin_lt e h.pos x h.le
  have h1 : (1 : EReal) = ((1 : ℝ) : EReal) := rfl
  rw [pay9_ap h]
  by_cases hj : j.val < 1
  · rw [dif_pos hj, h1, ← EReal.coe_sub, EReal.coe_eq_coe_iff]
    unfold step
    split <;> split <;> first | (exfalso; omega) | norm_num
  · rw [dif_neg hj, pay9_ap h, ← EReal.coe_sub, EReal.coe_eq_coe_iff]
    unfold step
    simp only
    split <;> split <;> split <;> first | (exfalso; omega) | norm_num

theorem pay11_ap (h : Column l v19 v24 v29 v35 v37 v38 d e g x) :
    k0_pay11 v35 v37 v38 (ix2 0 l) = if bin e x = 0 then 1#1 else 0#1 := by
  pointwise [k0_pay11]
  rw [pay9_ap h]
  unfold step
  have h0 : (0 : Fin 32).val = 0 := rfl
  rw [h0]
  by_cases hb : bin e x = 0
  · rw [if_neg (by omega), if_pos hb, decide_eq_true (by simp)]; rfl
  · rw [if_pos (by omega), if_neg hb, decide_eq_false (by simp)]; rfl

/-! ## Eight partial sums per quantity -/

/-- Partial sums over the rows eight apart. -/
def parts (f : Fin 32 → ℝ) (b : Fin 8) : ℝ := ∑ q : Fin 4, f ⟨q.val * 8 + b.val, by omega⟩

theorem sum_parts (f : Fin 32 → ℝ) : ∑ b : Fin 8, ((parts f b : ℝ) : EReal) = ((∑ j, f j : ℝ) : EReal) := by
  rw [← coe_sum f, ← sum_by_eights]
  refine Finset.sum_congr rfl fun b _ => ?_
  unfold parts
  rw [← coe_sum]
  exact Finset.sum_congr rfl fun q _ => congrArg (fun k => ((f k : ℝ) : EReal)) (Fin.ext (by simp; omega))

theorem pay12_ap (h : Column l v19 v24 v29 v35 v37 v38 d e g x) (b : Fin 8) : k0_pay12 v24 (ix2 b l) = ((parts e b : ℝ) : EReal) := by
  pointwise [k0_pay12]
  unfold parts
  rw [← coe_sum]
  exact Finset.sum_congr rfl fun q _ => h.wid _

theorem pay13_ap (h : Column l v19 v24 v29 v35 v37 v38 d e g x) (b : Fin 8) : k0_pay13 v29 (ix2 b l) = ((parts g b : ℝ) : EReal) := by
  pointwise [k0_pay13]
  unfold parts
  rw [← coe_sum]
  exact Finset.sum_congr rfl fun q _ => h.hei _

theorem pay14_ap (h : Column l v19 v24 v29 v35 v37 v38 d e g x) (b : Fin 8) :
    k0_pay14 v24 v35 v37 v38 (ix2 b l) = ((parts (fun j => step (bin e x) j.val * e j) b : ℝ) : EReal) := by
  pointwise [k0_pay14]
  unfold parts
  rw [← coe_sum]
  exact Finset.sum_congr rfl fun q _ => by rw [pay9_ap h, h.wid, EReal.coe_mul]

theorem pay15_ap (h : Column l v19 v24 v29 v35 v37 v38 d e g x) (b : Fin 8) :
    k0_pay15 v29 v35 v37 v38 (ix2 b l) = ((parts (fun j => step (bin e x) j.val * g j) b : ℝ) : EReal) := by
  pointwise [k0_pay15]
  unfold parts
  rw [← coe_sum]
  exact Finset.sum_congr rfl fun q _ => by rw [pay9_ap h, h.hei, EReal.coe_mul]

theorem pay16_ap (h : Column l v19 v24 v29 v35 v37 v38 d e g x) (b : Fin 8) :
    k0_pay16 v24 v35 v37 v38 (ix2 b l) = ((parts (fun j => (if j.val = bin e x then 1 else 0) * e j) b : ℝ) : EReal) := by
  pointwise [k0_pay16]
  unfold parts
  rw [← coe_sum]
  exact Finset.sum_congr rfl fun q _ => by rw [pay10_ap h, h.wid, EReal.coe_mul]

theorem pay17_ap (h : Column l v19 v24 v29 v35 v37 v38 d e g x) (b : Fin 8) :
    k0_pay17 v29 v35 v37 v38 (ix2 b l) = ((parts (fun j => (if j.val = bin e x then 1 else 0) * g j) b : ℝ) : EReal) := by
  pointwise [k0_pay17]
  unfold parts
  rw [← coe_sum]
  exact Finset.sum_congr rfl fun q _ => by rw [pay10_ap h, h.hei, EReal.coe_mul]

theorem pay18_ap (h : Column l v19 v24 v29 v35 v37 v38 d e g x) (b : Fin 8) :
    k0_pay18 v19 v35 v37 v38 (ix2 b l) = ((parts (fun j => (if j.val = bin e x then 1 else 0) * d j) b : ℝ) : EReal) := by
  pointwise [k0_pay18]
  unfold parts
  rw [← coe_sum]
  exact Finset.sum_congr rfl fun q _ => by rw [pay10_ap h, h.der, EReal.coe_mul]

theorem pay19_ap (h : Column l v19 v24 v29 v35 v37 v38 d e g x) (b : Fin 8) :
    k0_pay19 v19 v35 v37 v38 (ix2 b l) = ((parts (fun j => (if j.val + 1 = bin e x then 1 else 0) * d j) b : ℝ) : EReal) := by
  pointwise [k0_pay19]
  unfold parts
  rw [← coe_sum]
  have hn := bin_lt e h.pos x h.le
  refine Finset.sum_congr rfl fun q _ => ?_
  rw [h.der, pay9_ap h, EReal.coe_mul]
  refine congrArg (· * _) ?_
  by_cases hj : q.val * 8 + b.val < 31
  · rw [dif_pos hj, pay9_ap h, ← EReal.coe_sub, EReal.coe_eq_coe_iff]
    unfold step
    simp only
    split <;> split <;> split <;> first | (exfalso; omega) | norm_num
  · rw [dif_neg hj, show (0 : EReal) = ((0 : ℝ) : EReal) from rfl, ← EReal.coe_sub, EReal.coe_eq_coe_iff]
    unfold step
    simp only
    split <;> split <;> first | (exfalso; omega) | norm_num

/-! ## The selecting product -/

/-- Piece `a` of a stack of pieces of eight rows. -/
theorem piece (xs : List ((s : Shape) × (s.Idx → EReal))) (h : Shape.Concatenates (xs.map (·.1)) S112x32768 0) (a : Fin 14)
    (ha : xs.length = 14) (v : FVec Ideal S8x32768 .f32) (hv : xs[a.val]'(a.isLt.trans_eq ha.symm) = ⟨S8x32768, v⟩)
    (hpre : (((xs.take a.val).map (·.1)).map fun s => if h : s.rank = S112x32768.rank then s.size ((0 : Fin S112x32768.rank).cast h.symm) else 0).sum = 8 * a.val)
    (r : Fin 8) (l : Fin 32768) :
    concatenate S112x32768 0 xs h (ix2 ⟨8 * a.val + r.val, by omega⟩ l) = v (ix2 r l) := by
  refine concatenate_apply_piece (t := S112x32768) 0 xs h _ a.val (a.isLt.trans_eq ha.symm) S8x32768 v hv rfl (8 * a.val) hpre (ix2 r l) ?_ ?_
  · intro b hb
    match b with
    | 0 => exact absurd rfl hb
    | 1 => rfl
  · rfl

/-- The entries of the selecting matrix: row `b` picks pieces `b` (below six) and `b + 6`. -/
theorem pick : ∀ (b : Fin 8) (k : Fin 112), (BitVec.setWidth 32
            (IntOp.ori (k0_pay25 (ix2 b k))
              (IntOp.ori (k0_pay26 (ix2 b k))
                (IntOp.andi (IntOp.cmpi CmpIPredicate.eq (k0_pay24 (ix2 b k)) (IntOp.addi (BitVec.ofNat 32 ↑b) 6#32))
                  (IntOp.cmpi CmpIPredicate.sge (BitVec.ofNat 32 ↑b) 6#32))))).toInt
      = if k.val / 8 = b.val + 6 ∨ (k.val / 8 = b.val ∧ b.val < 6) then 1 else 0 := by
  intro b k
  pointwise [k0_pay25, k0_pay26, k0_pay24]
  revert b k
  decide +kernel

/-- The sum of the eight rows of piece `a`. -/
def block8 (v : FVec Ideal S112x32768 .f32) (l : Fin 32768) (a : Fin 14) : EReal := ∑ r : Fin 8, v (ix2 ⟨8 * a.val + r.val, by omega⟩ l)

theorem pay27_ap (v : FVec Ideal S112x32768 .f32) (b : Fin 8) (l : Fin 32768) :
    k0_pay27 v (iota .tc S8x112 32 [0] iota_S8x112_d0_w32) k0_pay24 k0_pay25 k0_pay26 6#32 (ix2 b l)
      = ∑ a : Fin 14, if a.val = b.val + 6 ∨ (a.val = b.val ∧ b.val < 6) then block8 v l a else 0 := by
  pointwise [k0_pay27]
  have hk : ∀ k : Fin 112, (FloatOps.sitofp (F := Ideal) FTy.f32 (BitVec.setWidth 32
            (IntOp.ori (k0_pay25 (ix2 b k))
              (IntOp.ori (k0_pay26 (ix2 b k))
                (IntOp.andi (IntOp.cmpi CmpIPredicate.eq (k0_pay24 (ix2 b k)) (IntOp.addi (BitVec.ofNat 32 ↑b) 6#32))
                  (IntOp.cmpi CmpIPredicate.sge (BitVec.ofNat 32 ↑b) 6#32))))) : Ideal .f32)
      = if k.val / 8 = b.val + 6 ∨ (k.val / 8 = b.val ∧ b.val < 6) then (1 : EReal) else 0 := fun k => by
    show ((_ : ℝ) : EReal) = _
    rw [pick]
    split <;> simp
  rw [Finset.sum_congr rfl fun k _ => congrArg (· * _) (hk k)]
  rw [← Equiv.sum_comp (finProdFinEquiv (m := 14) (n := 8)), Fintype.sum_prod_type]
  refine Finset.sum_congr rfl fun a _ => ?_
  have hv : ∀ r : Fin 8, (finProdFinEquiv (m := 14) (n := 8) (a, r)) = (⟨8 * a.val + r.val, by omega⟩ : Fin 112) := fun r =>
    Fin.ext (by simp [finProdFinEquiv]; omega)
  have hd : ∀ r : Fin 8, (8 * a.val + r.val) / 8 = a.val := fun r => by omega
  simp only [hv, hd]
  split
  · exact Finset.sum_congr rfl fun r _ => one_mul _
  · exact Finset.sum_eq_zero fun r _ => zero_mul _

/-- A row below six sums two pieces. -/
theorem pay27_two (v : FVec Ideal S112x32768 .f32) (b : Fin 6) (l : Fin 32768) :
    k0_pay27 v (iota .tc S8x112 32 [0] iota_S8x112_d0_w32) k0_pay24 k0_pay25 k0_pay26 6#32 (ix2 ⟨b.val, by omega⟩ l)
      = block8 v l ⟨b.val, by omega⟩ + block8 v l ⟨b.val + 6, by omega⟩ := by
  rw [pay27_ap, Finset.sum_eq_add (⟨b.val, by omega⟩ : Fin 14) (⟨b.val + 6, by omega⟩ : Fin 14)]
  · rw [if_pos (Or.inr ⟨rfl, b.isLt⟩), if_pos (Or.inl rfl)]
  · intro hh; have := congrArg Fin.val hh; simp at this
  · rintro c - ⟨h1, h2⟩
    refine if_neg fun hh => ?_
    rcases hh with hh | hh
    · exact h2 (Fin.ext hh)
    · exact h1 (Fin.ext hh.1)
  · intro hh; exact absurd (Finset.mem_univ _) hh
  · intro hh; exact absurd (Finset.mem_univ _) hh

/-- Rows six and seven sum one piece each. -/
theorem pay27_one (v : FVec Ideal S112x32768 .f32) (b : Fin 2) (l : Fin 32768) :
    k0_pay27 v (iota .tc S8x112 32 [0] iota_S8x112_d0_w32) k0_pay24 k0_pay25 k0_pay26 6#32 (ix2 ⟨6 + b.val, by omega⟩ l)
      = block8 v l ⟨12 + b.val, by omega⟩ := by
  rw [pay27_ap, Finset.sum_eq_single (⟨12 + b.val, by omega⟩ : Fin 14)]
  · rw [if_pos (Or.inl (by simp; omega))]
  · rintro c - h1
    refine if_neg fun hh => ?_
    rcases hh with hh | hh
    · exact h1 (Fin.ext (by simp at hh ⊢; omega))
    · exact absurd hh.2 (by simp)
  · intro hh; exact absurd (Finset.mem_univ _) hh

/-! ## The eight sums of a column -/

/-- Fourteen pieces of eight rows make the stack. -/
theorem stack_joins : Shape.Concatenates [S8x32768, S8x32768, S8x32768, S8x32768, S8x32768, S8x32768, S8x32768, S8x32768, S8x32768, S8x32768, S8x32768, S8x32768, S8x32768, S8x32768] S112x32768 0 :=
  concatenates_S8x32768_S8x32768_S8x32768_S8x32768_S8x32768_S8x32768_S8x32768_S8x32768_S8x32768_S8x32768_S8x32768_S8x32768_S8x32768_S8x32768_S112x32768_d0

/-- The stack of partial sums, and of what rounding them leaves. -/
def stack (v19 v24 v29 v35 : FVec Ideal S32x32768 .f32) (v37 v38 : FVec Ideal S1x32768 .f32) : FVec Ideal S112x32768 .f32 :=
  k0_pay23 (k0_pay12 v24) (k0_pay13 v29) (k0_pay14 v24 v35 v37 v38) (k0_pay15 v29 v35 v37 v38) (k0_pay16 v24 v35 v37 v38)
    (k0_pay17 v29 v35 v37 v38) (k0_pay18 v19 v35 v37 v38) (k0_pay19 v19 v35 v37 v38) (k0_pay20 v24) (k0_pay21 v29)
    (k0_pay22 v24 v35 v37 v38)

/-- The product of the selecting matrix with the stack. -/
def sums (v19 v24 v29 v35 : FVec Ideal S32x32768 .f32) (v37 v38 : FVec Ideal S1x32768 .f32) : FVec Ideal S8x32768 .f32 :=
  k0_pay27 (stack v19 v24 v29 v35 v37 v38) (iota .tc S8x112 32 [0] iota_S8x112_d0_w32) k0_pay24 k0_pay25 k0_pay26 6#32

/-- What a piece of partial sums adds up to. -/
theorem block8_of (v : FVec Ideal S112x32768 .f32) (p : FVec Ideal S8x32768 .f32) (a : Fin 14) (f : Fin 32 → ℝ)
    (hv : ∀ r : Fin 8, v (ix2 ⟨8 * a.val + r.val, by omega⟩ l) = p (ix2 r l)) (hp : ∀ r : Fin 8, p (ix2 r l) = ((parts f r : ℝ) : EReal)) :
    block8 v l a = ((∑ j, f j : ℝ) : EReal) := by
  rw [← sum_parts]
  exact Finset.sum_congr rfl fun r _ => (hv r).trans (hp r)

/-- A piece of remainders adds up to zero. -/
theorem block8_rest (v : FVec Ideal S112x32768 .f32) (p q : FVec Ideal S8x32768 .f32) (a : Fin 14) (f : Fin 32 → ℝ)
    (hv : ∀ r : Fin 8, v (ix2 ⟨8 * a.val + r.val, by omega⟩ l) = subf p q (ix2 r l)) (hp : ∀ r : Fin 8, p (ix2 r l) = ((parts f r : ℝ) : EReal))
    (hq : ∀ r : Fin 8, q (ix2 r l) = p (ix2 r l)) : block8 v l a = 0 := by
  refine Finset.sum_eq_zero fun r _ => (hv r).trans ?_
  pointwise []
  rw [hq, hp, ← EReal.coe_sub, sub_self]; rfl

/-- A row of the product over rounded partial sums and their remainders: the whole sum. -/
theorem row_two (v : FVec Ideal S112x32768 .f32) (p q : FVec Ideal S8x32768 .f32) (b : Fin 6) (f : Fin 32 → ℝ)
    (hv : ∀ r : Fin 8, v (ix2 ⟨8 * b.val + r.val, by omega⟩ l) = q (ix2 r l))
    (hv' : ∀ r : Fin 8, v (ix2 ⟨8 * (b.val + 6) + r.val, by omega⟩ l) = subf p q (ix2 r l))
    (hp : ∀ r : Fin 8, p (ix2 r l) = ((parts f r : ℝ) : EReal)) (hq : ∀ r : Fin 8, q (ix2 r l) = p (ix2 r l)) :
    k0_pay27 v (iota .tc S8x112 32 [0] iota_S8x112_d0_w32) k0_pay24 k0_pay25 k0_pay26 6#32 (ix2 ⟨b.val, by omega⟩ l)
      = ((∑ j, f j : ℝ) : EReal) := by
  rw [pay27_two, block8_of v q ⟨b.val, by omega⟩ f hv (fun r => (hq r).trans (hp r)),
    block8_rest v p q ⟨b.val + 6, by omega⟩ f hv' hp hq, add_zero]

theorem sums_0 (h : Column l v19 v24 v29 v35 v37 v38 d e g x) : sums v19 v24 v29 v35 v37 v38 (ix2 0 l) = ((pre e 32 : ℝ) : EReal) := by
  rw [pre_all]
  exact row_two _ (k0_pay12 v24) (k0_pay20 v24) 0 e (fun r => piece _ (by exact stack_joins) 0 rfl _ rfl rfl r l) (fun r => piece _ (by exact stack_joins) 6 rfl _ rfl rfl r l)
    (pay12_ap h) (fun r => by pointwise [k0_pay20])

theorem sums_1 (h : Column l v19 v24 v29 v35 v37 v38 d e g x) : sums v19 v24 v29 v35 v37 v38 (ix2 1 l) = ((pre g 32 : ℝ) : EReal) := by
  rw [pre_all]
  exact row_two _ (k0_pay13 v29) (k0_pay21 v29) 1 g (fun r => piece _ (by exact stack_joins) 1 rfl _ rfl rfl r l) (fun r => piece _ (by exact stack_joins) 7 rfl _ rfl rfl r l)
    (pay13_ap h) (fun r => by pointwise [k0_pay21])

theorem sums_2 (h : Column l v19 v24 v29 v35 v37 v38 d e g x) : sums v19 v24 v29 v35 v37 v38 (ix2 2 l) = ((pre e (bin e x) : ℝ) : EReal) := by
  rw [← sum_before]
  exact row_two _ (k0_pay14 v24 v35 v37 v38) (k0_pay22 v24 v35 v37 v38) 2 _ (fun r => piece _ (by exact stack_joins) 2 rfl _ rfl rfl r l)
    (fun r => piece _ (by exact stack_joins) 8 rfl _ rfl rfl r l) (pay14_ap h) (fun r => by pointwise [k0_pay22])

theorem sums_3 (h : Column l v19 v24 v29 v35 v37 v38 d e g x) : sums v19 v24 v29 v35 v37 v38 (ix2 3 l) = ((pre g (bin e x) : ℝ) : EReal) := by
  rw [← sum_before]
  exact row_two _ (k0_pay15 v29 v35 v37 v38) (extf .f32 (truncf .bf16 (k0_pay15 v29 v35 v37 v38) bitsLt_bf16_f32) bitsLt_bf16_f32) 3 _
    (fun r => piece _ (by exact stack_joins) 3 rfl _ rfl rfl r l) (fun r => piece _ (by exact stack_joins) 9 rfl _ rfl rfl r l) (pay15_ap h) (fun r => by pointwise [])

theorem sums_4 (h : Column l v19 v24 v29 v35 v37 v38 d e g x) :
    sums v19 v24 v29 v35 v37 v38 (ix2 4 l) = ((e ⟨bin e x, bin_lt e h.pos x h.le⟩ : ℝ) : EReal) := by
  rw [← sum_at e (⟨bin e x, bin_lt e h.pos x h.le⟩ : Fin 32)]
  exact row_two _ (k0_pay16 v24 v35 v37 v38) (extf .f32 (truncf .bf16 (k0_pay16 v24 v35 v37 v38) bitsLt_bf16_f32) bitsLt_bf16_f32) 4 _
    (fun r => piece _ (by exact stack_joins) 4 rfl _ rfl rfl r l) (fun r => piece _ (by exact stack_joins) 10 rfl _ rfl rfl r l) (pay16_ap h) (fun r => by pointwise [])

theorem sums_5 (h : Column l v19 v24 v29 v35 v37 v38 d e g x) :
    sums v19 v24 v29 v35 v37 v38 (ix2 5 l) = ((g ⟨bin e x, bin_lt e h.pos x h.le⟩ : ℝ) : EReal) := by
  rw [← sum_at g (⟨bin e x, bin_lt e h.pos x h.le⟩ : Fin 32)]
  exact row_two _ (k0_pay17 v29 v35 v37 v38) (extf .f32 (truncf .bf16 (k0_pay17 v29 v35 v37 v38) bitsLt_bf16_f32) bitsLt_bf16_f32) 5 _
    (fun r => piece _ (by exact stack_joins) 5 rfl _ rfl rfl r l) (fun r => piece _ (by exact stack_joins) 11 rfl _ rfl rfl r l) (pay17_ap h) (fun r => by pointwise [])

theorem sums_6 (h : Column l v19 v24 v29 v35 v37 v38 d e g x) :
    sums v19 v24 v29 v35 v37 v38 (ix2 6 l) = ((d ⟨bin e x, bin_lt e h.pos x h.le⟩ : ℝ) : EReal) := by
  rw [← sum_at d (⟨bin e x, bin_lt e h.pos x h.le⟩ : Fin 32)]
  exact (pay27_one _ 0 l).trans (block8_of _ (k0_pay18 v19 v35 v37 v38) 12 _ (fun r => piece _ (by exact stack_joins) 12 rfl _ rfl rfl r l) (pay18_ap h))

theorem sums_7 (h : Column l v19 v24 v29 v35 v37 v38 d e g x) :
    sums v19 v24 v29 v35 v37 v38 (ix2 7 l) = ((∑ j : Fin 32, (if j.val + 1 = bin e x then 1 else 0) * d j : ℝ) : EReal) :=
  (pay27_one _ 1 l).trans (block8_of _ (k0_pay19 v19 v35 v37 v38) 13 _ (fun r => piece _ (by exact stack_joins) 13 rfl _ rfl rfl r l) (pay19_ap h))

end Cert.KernelIdeal.Block

end
-- ==== Proof.Column.lean ====
module
public import proofs.«01_k».proof.Proof.Block
@[expose] public section
set_option maxRecDepth 16384
noncomputable section

/-! # From the eight sums of a column to the transformed coordinate and its slope -/

namespace Cert.KernelIdeal.Block
open Idealize.ShloMosaic Idealize.ShloMosaic.TcCoe Idealize.SL.Sem
open Cert.KernelIdeal Cert.KernelIdeal.Gen Cert.Spline
open scoped BigOperators

/-- The eight sums, as the rows of a product hold them at column `l`: totals, sums before the coordinate's bin, that
    bin's own entries and the derivative logit before it. -/
structure Sums (l : Fin 32768) (v99 : FVec Ideal S112x32768 .f32) (v100 v125 : IVec S8x112 32) (v131 v135 : IVec S8x112 1) (c : BitVec 32)
    (d e g : Fin 32 → ℝ) (n : Fin 32) : Prop where
  r0 : k0_pay27 v99 v100 v125 v131 v135 c (ix2 0 l) = ((pre e 32 : ℝ) : EReal)
  r1 : k0_pay27 v99 v100 v125 v131 v135 c (ix2 1 l) = ((pre g 32 : ℝ) : EReal)
  r2 : k0_pay27 v99 v100 v125 v131 v135 c (ix2 2 l) = ((pre e n.val : ℝ) : EReal)
  r3 : k0_pay27 v99 v100 v125 v131 v135 c (ix2 3 l) = ((pre g n.val : ℝ) : EReal)
  r4 : k0_pay27 v99 v100 v125 v131 v135 c (ix2 4 l) = ((e n : ℝ) : EReal)
  r5 : k0_pay27 v99 v100 v125 v131 v135 c (ix2 5 l) = ((g n : ℝ) : EReal)
  r6 : k0_pay27 v99 v100 v125 v131 v135 c (ix2 6 l) = ((d n : ℝ) : EReal)
  r7 : k0_pay27 v99 v100 v125 v131 v135 c (ix2 7 l) = ((∑ j : Fin 32, (if j.val + 1 = n.val then 1 else 0) * d j : ℝ) : EReal)
  pos : ∀ j, 0 < e j
  pos' : ∀ j, 0 < g j

variable {l : Fin 32768} {v99 : FVec Ideal S112x32768 .f32} {v100 v125 : IVec S8x112 32} {v131 v135 : IVec S8x112 1} {c : BitVec 32}
  {d e g : Fin 32 → ℝ} {n : Fin 32}

theorem two_over (e : Fin 32 → ℝ) (he : ∀ j, 0 < e j) : Ideal.div ((2 : ℝ) : EReal) ((pre e 32 : ℝ) : EReal) = ((2 / pre e 32 : ℝ) : EReal) := by
  rw [Ideal.div_coe (pre_all_pos e he).ne', ← EReal.coe_mul, mul_one_div]

theorem pay28_ap (h : Sums l v99 v100 v125 v131 v135 c d e g n) : k0_pay28 v99 v100 v125 v131 v135 c (ix2 0 l) = ((2 / pre e 32 : ℝ) : EReal) := by
  pointwise [k0_pay28]
  rw [h.r0, ofBits_two, two_over e h.pos]

theorem pay29_ap (h : Sums l v99 v100 v125 v131 v135 c d e g n) : k0_pay29 v99 v100 v125 v131 v135 c (ix2 0 l) = ((2 / pre g 32 : ℝ) : EReal) := by
  pointwise [k0_pay29]
  rw [h.r1, ofBits_two, two_over g h.pos']

theorem pay30_ap (h : Sums l v99 v100 v125 v131 v135 c d e g n) : k0_pay30 v99 v100 v125 v131 v135 c (ix2 0 l) = ((knot e n.val : ℝ) : EReal) := by
  pointwise [k0_pay30]
  rw [h.r2, pay28_ap h]
  rfl

theorem pay31_ap (h : Sums l v99 v100 v125 v131 v135 c d e g n) : k0_pay31 v99 v100 v125 v131 v135 c (ix2 0 l) = ((knot g n.val : ℝ) : EReal) := by
  pointwise [k0_pay31]
  rw [h.r3, pay29_ap h]
  rfl

/-- A knot is the one before it and its bin's width. -/
theorem knot_succ (e : Fin 32 → ℝ) (n : Fin 32) : ((knot e n.val : ℝ) : EReal) + ((e n : ℝ) : EReal) * ((2 / pre e 32 : ℝ) : EReal) = ((knot e (n.val + 1) : ℝ) : EReal) := by
  rw [← EReal.coe_mul, ← EReal.coe_add, EReal.coe_eq_coe_iff]
  unfold knot
  rw [pre_succ]
  ring

theorem pay32_ap (h : Sums l v99 v100 v125 v131 v135 c d e g n) : k0_pay32 v99 v100 v125 v131 v135 c (ix2 0 l) = ((knot e (n.val + 1) : ℝ) : EReal) := by
  pointwise [k0_pay32]
  rw [h.r4, pay28_ap h, pay30_ap h, knot_succ]

theorem pay33_ap (h : Sums l v99 v100 v125 v131 v135 c d e g n) : k0_pay33 v99 v100 v125 v131 v135 c (ix2 0 l) = ((knot g (n.val + 1) : ℝ) : EReal) := by
  pointwise [k0_pay33]
  rw [h.r5, pay29_ap h, pay31_ap h, knot_succ]

/-- The soft plus as the block writes it, at a real number. -/
theorem soft_of (r : ℝ) (w : EReal) (h : w = r) :
    (if w ≠ w then w else max w 0 + Ideal.log1p (Ideal.exp (0 - FloatOps.absf (F := Ideal) (φ := .f32) w))) = soft (r : EReal) := by
  subst h
  rw [if_neg (fun h => h rfl), zero_sub]
  rfl

theorem pay34_ap (h : Sums l v99 v100 v125 v131 v135 c d e g n) :
    k0_pay34 v99 v100 v125 v131 v135 c (ix2 0 l) = soft ((d n : ℝ) : EReal) + ((least : ℝ) : EReal) := by
  pointwise [k0_pay34]
  rw [h.r6, ofBits_least, soft_of (d n) _ rfl]

theorem pay35_ap (h : Sums l v99 v100 v125 v131 v135 c d e g n) (hn : 1 ≤ n.val) :
    k0_pay35 v99 v100 v125 v131 v135 c (ix2 0 l) = ((d ⟨n.val - 1, by omega⟩ : ℝ) : EReal) := by
  pointwise [k0_pay35]
  rw [h.r7, ← sum_at d ⟨n.val - 1, by omega⟩]
  refine congrArg _ (Finset.sum_congr rfl fun j _ => ?_)
  exact congrArg (· * d j) (if_congr (by simp only; omega) rfl rfl)

/-- The slope at the bin's left knot: one at the first knot, else from the derivative logit before the bin. -/
theorem pay37_ap (v58 : IVec S1x32768 1) (w : FVec Ideal S1x32768 .f32) (p : Prop) [Decidable p] (hv : v58 (ix2 0 l) = if p then 1#1 else 0#1)
    (q : Fin 31 → EReal) (m : ℕ) (hp : p → m = 0)
    (hw : ¬ p → ∃ r : ℝ, w (ix2 0 l) = (r : EReal) ∧ deriv (least : EReal) q m = soft (r : EReal) + ((least : ℝ) : EReal)) :
    k0_pay37 v58 w (0 : Ideal .f32) k0_pay36 (ix2 0 l) = deriv (least : EReal) q m := by
  pointwise [k0_pay37, k0_pay36]
  rw [hv, ofBits_least]
  by_cases h : p
  · rw [if_pos h, hp h, deriv_zero]; rfl
  · obtain ⟨r, hr, hd⟩ := hw h
    rw [if_neg h, hd, ← soft_of r _ hr]; rfl

theorem two_eq : ((2 : ℝ) : EReal) = 2 := rfl

/-- The block's value at a column. -/
theorem pay42_ap (v37 : FVec Ideal S1x32768 .f32) (v58 : IVec S1x32768 1) (a1 a2 a3 a4 a5 a6 : FVec Ideal S1x32768 .f32) :
    k0_pay42 v37 v58 a1 a2 a3 a4 a5 a6 (Scalar.ofBits .f32 0x00000000#32) k0_pay36 (ix2 0 l)
      = val (v37 (ix2 0 l)) (a1 (ix2 0 l)) (a3 (ix2 0 l)) (a2 (ix2 0 l)) (a4 (ix2 0 l)) (k0_pay37 v58 a6 (0 : Ideal .f32) k0_pay36 (ix2 0 l)) (a5 (ix2 0 l)) := by
  pointwise [k0_pay42, k0_pay41, k0_pay40, k0_pay39, k0_pay38]
  rw [ofBits_two, two_eq]
  unfold val den
  simp only [mul_assoc]

/-- The block's slope at a column. -/
theorem pay1_ap (v37 : FVec Ideal S1x32768 .f32) (v58 : IVec S1x32768 1) (a1 a2 a3 a4 a5 a6 : FVec Ideal S1x32768 .f32) :
    k0_pay1 (k0_pay43 v37 v58 a1 a2 a3 a4 a5 a6 (Scalar.ofBits .f32 0x00000000#32) k0_pay36)
        (k0_pay44 v37 v58 a1 a2 a3 a4 a5 a6 (Scalar.ofBits .f32 0x00000000#32) k0_pay36) (ix2 0 l)
      = Spline.slope (v37 (ix2 0 l)) (a1 (ix2 0 l)) (a3 (ix2 0 l)) (a2 (ix2 0 l)) (a4 (ix2 0 l)) (k0_pay37 v58 a6 (0 : Ideal .f32) k0_pay36 (ix2 0 l)) (a5 (ix2 0 l)) := by
  pointwise [k0_pay1, k0_pay43, k0_pay44, k0_pay41, k0_pay40, k0_pay39, k0_pay38]
  rw [ofBits_two, two_eq]
  unfold Spline.slope den
  simp only [mul_assoc]

/-! ## The whole block at a column -/

variable {x0 : Vec Ideal S1x32768 .f32} {x1 : Vec Ideal S8x32768 .f32} {x2 : Vec Ideal S72x9 .f32} {x3 : Vec Ideal S72x72 .f32} {x4 : Vec Ideal S96x72 .f32}

/-- The derivative logits of a row, the pad after them. -/
def slopes (th : Fin 95 → ℝ) (j : Fin 32) : ℝ :=
  if h : j.val < 31 then th ⟨64 + j.val, by omega⟩ else Real.log (Real.exp (1 - least) - 1)

/-- What the block's vectors hold at a column whose logits are the reals `th`. -/
theorem column_of (th : Fin 95 → ℝ) (hth : ∀ j : Fin 95, k0_pay2 x1 x2 x3 x4 (ix2 ⟨j.val, by omega⟩ l) = ((th j : ℝ) : EReal))
    (hpad : k0_pay2 x1 x2 x3 x4 (ix2 95 l) = ((Real.log (Real.exp (1 - least) - 1) : ℝ) : EReal)) (hx : (x0 (ix2 0 l) : EReal) ≤ 1) :
    Column l (k0_pay3 x1 x2 x3 x4) (k0_pay4 x1 x2 x3 x4) (k0_pay5 x1 x2 x3 x4) (k0_pay6 x1 x2 x3 x4) (k0_pay7 x0) k0_pay8
      (slopes th) (wid th) (hei th) (x0 (ix2 0 l)) where
  der j := by
    rw [pay3_ap]
    unfold slopes
    by_cases h : j.val < 31
    · rw [dif_pos h, ← hth]
    · rw [dif_neg h, ← hpad]
      exact congrArg (fun k => k0_pay2 x1 x2 x3 x4 (ix2 k l)) (Fin.ext (by have := j.isLt; show 64 + j.val = 95; omega))
  wid := pay4_ap _ l fun j => hth ⟨j.val, by omega⟩
  hei := pay5_ap _ l fun j => hth ⟨32 + j.val, by omega⟩
  cum := pay6_ap _ l (pay4_ap _ l fun j => hth ⟨j.val, by omega⟩)
  coord := by pointwise [k0_pay7]
  ones := by pointwise [k0_pay8]
  pos := wgt_pos _
  pos' := wgt_pos _
  le := hx

variable {v19 v24 v29 v35 : FVec Ideal S32x32768 .f32} {v37 v38 : FVec Ideal S1x32768 .f32} {x : EReal}

/-- The eight sums of a column. -/
theorem sums_of (h : Column l v19 v24 v29 v35 v37 v38 d e g x) :
    Sums l (stack v19 v24 v29 v35 v37 v38) (iota .tc S8x112 32 [0] iota_S8x112_d0_w32) k0_pay24 k0_pay25 k0_pay26 6#32 d e g
      ⟨bin e x, bin_lt e h.pos x h.le⟩ :=
  ⟨sums_0 h, sums_1 h, sums_2 h, sums_3 h, sums_4 h, sums_5 h, sums_6 h, sums_7 h, h.pos, h.pos'⟩

section Out
variable {th : Fin 95 → ℝ}

/-- The slope at the bin's right knot. -/
theorem right_of (h : Column l v19 v24 v29 v35 v37 v38 (slopes th) (wid th) (hei th) x) :
    k0_pay34 (stack v19 v24 v29 v35 v37 v38) (iota .tc S8x112 32 [0] iota_S8x112_d0_w32) k0_pay24 k0_pay25 k0_pay26 6#32 (ix2 0 l)
      = deriv (least : EReal) (der th) (bin (wid th) x + 1) := by
  rw [pay34_ap (sums_of h)]
  refine deriv_succ least least_lt (der th) (fun j => ((slopes th j : ℝ) : EReal)) (fun k => ?_) ?_ ⟨bin (wid th) x, bin_lt _ h.pos x h.le⟩
  · unfold slopes
    rw [dif_pos k.isLt]; rfl
  · unfold slopes
    rw [dif_neg (by decide)]

/-- The slope at the bin's left knot. -/
theorem left_of (h : Column l v19 v24 v29 v35 v37 v38 (slopes th) (wid th) (hei th) x) :
    k0_pay37 (k0_pay11 v35 v37 v38)
        (k0_pay35 (stack v19 v24 v29 v35 v37 v38) (iota .tc S8x112 32 [0] iota_S8x112_d0_w32) k0_pay24 k0_pay25 k0_pay26 6#32)
        (0 : Ideal .f32) k0_pay36 (ix2 0 l)
      = deriv (least : EReal) (der th) (bin (wid th) x) := by
  have hb := bin_lt _ h.pos x h.le
  refine pay37_ap _ _ (bin (wid th) x = 0) (pay11_ap h) (der th) _ id fun h0 => ⟨_, pay35_ap (sums_of h) (Nat.one_le_iff_ne_zero.mpr h0), ?_⟩
  rw [deriv_pos _ _ _ (Nat.one_le_iff_ne_zero.mpr h0) hb]
  unfold slopes der
  rw [dif_pos (by simp only; omega)]

theorem value_of (h : Column l v19 v24 v29 v35 v37 v38 (slopes th) (wid th) (hei th) x) :
    k0_pay42 v37 (k0_pay11 v35 v37 v38)
        (k0_pay30 (stack v19 v24 v29 v35 v37 v38) (iota .tc S8x112 32 [0] iota_S8x112_d0_w32) k0_pay24 k0_pay25 k0_pay26 6#32)
        (k0_pay31 (stack v19 v24 v29 v35 v37 v38) (iota .tc S8x112 32 [0] iota_S8x112_d0_w32) k0_pay24 k0_pay25 k0_pay26 6#32)
        (k0_pay32 (stack v19 v24 v29 v35 v37 v38) (iota .tc S8x112 32 [0] iota_S8x112_d0_w32) k0_pay24 k0_pay25 k0_pay26 6#32)
        (k0_pay33 (stack v19 v24 v29 v35 v37 v38) (iota .tc S8x112 32 [0] iota_S8x112_d0_w32) k0_pay24 k0_pay25 k0_pay26 6#32)
        (k0_pay34 (stack v19 v24 v29 v35 v37 v38) (iota .tc S8x112 32 [0] iota_S8x112_d0_w32) k0_pay24 k0_pay25 k0_pay26 6#32)
        (k0_pay35 (stack v19 v24 v29 v35 v37 v38) (iota .tc S8x112 32 [0] iota_S8x112_d0_w32) k0_pay24 k0_pay25 k0_pay26 6#32)
        (Scalar.ofBits .f32 0x00000000#32) k0_pay36 (ix2 0 l)
      = rowVal (least : EReal) x th := by
  rw [pay42_ap, left_of h, right_of h, h.coord, pay30_ap (sums_of h), pay31_ap (sums_of h), pay32_ap (sums_of h), pay33_ap (sums_of h)]
  rfl

theorem slope_of (h : Column l v19 v24 v29 v35 v37 v38 (slopes th) (wid th) (hei th) x) :
    k0_pay1 (k0_pay43 v37 (k0_pay11 v35 v37 v38)
        (k0_pay30 (stack v19 v24 v29 v35 v37 v38) (iota .tc S8x112 32 [0] iota_S8x112_d0_w32) k0_pay24 k0_pay25 k0_pay26 6#32)
        (k0_pay31 (stack v19 v24 v29 v35 v37 v38) (iota .tc S8x112 32 [0] iota_S8x112_d0_w32) k0_pay24 k0_pay25 k0_pay26 6#32)
        (k0_pay32 (stack v19 v24 v29 v35 v37 v38) (iota .tc S8x112 32 [0] iota_S8x112_d0_w32) k0_pay24 k0_pay25 k0_pay26 6#32)
        (k0_pay33 (stack v19 v24 v29 v35 v37 v38) (iota .tc S8x112 32 [0] iota_S8x112_d0_w32) k0_pay24 k0_pay25 k0_pay26 6#32)
        (k0_pay34 (stack v19 v24 v29 v35 v37 v38) (iota .tc S8x112 32 [0] iota_S8x112_d0_w32) k0_pay24 k0_pay25 k0_pay26 6#32)
        (k0_pay35 (stack v19 v24 v29 v35 v37 v38) (iota .tc S8x112 32 [0] iota_S8x112_d0_w32) k0_pay24 k0_pay25 k0_pay26 6#32)
        (Scalar.ofBits .f32 0x00000000#32) k0_pay36)
      (k0_pay44 v37 (k0_pay11 v35 v37 v38)
        (k0_pay30 (stack v19 v24 v29 v35 v37 v38) (iota .tc S8x112 32 [0] iota_S8x112_d0_w32) k0_pay24 k0_pay25 k0_pay26 6#32)
        (k0_pay31 (stack v19 v24 v29 v35 v37 v38) (iota .tc S8x112 32 [0] iota_S8x112_d0_w32) k0_pay24 k0_pay25 k0_pay26 6#32)
        (k0_pay32 (stack v19 v24 v29 v35 v37 v38) (iota .tc S8x112 32 [0] iota_S8x112_d0_w32) k0_pay24 k0_pay25 k0_pay26 6#32)
        (k0_pay33 (stack v19 v24 v29 v35 v37 v38) (iota .tc S8x112 32 [0] iota_S8x112_d0_w32) k0_pay24 k0_pay25 k0_pay26 6#32)
        (k0_pay34 (stack v19 v24 v29 v35 v37 v38) (iota .tc S8x112 32 [0] iota_S8x112_d0_w32) k0_pay24 k0_pay25 k0_pay26 6#32)
        (k0_pay35 (stack v19 v24 v29 v35 v37 v38) (iota .tc S8x112 32 [0] iota_S8x112_d0_w32) k0_pay24 k0_pay25 k0_pay26 6#32)
        (Scalar.ofBits .f32 0x00000000#32) k0_pay36) (ix2 0 l)
      = rowSlope (least : EReal) x th := by
  rw [pay1_ap, left_of h, right_of h, h.coord, pay30_ap (sums_of h), pay31_ap (sums_of h), pay32_ap (sums_of h), pay33_ap (sums_of h)]
  rfl

end Out

end Cert.KernelIdeal.Block
end
-- ==== Proof.Value.lean ====
module
public import proofs.«01_k».proof.Proof.Host
public import proofs.«01_k».proof.Proof.Column
public import Idealize.ShloMosaic.Lib.Pipeline.ValueKit
@[expose] public section
set_option maxRecDepth 16384
noncomputable section

/-! # What the kernel's two result arrays hold -/

namespace Cert.KernelIdeal.Arrays
open Idealize.ShloMosaic Idealize.ShloMosaic.TcCoe Idealize.SL.Sem
open Idealize.ShloMosaic.Pipeline (Dat)
open Cert.KernelIdeal Cert.KernelIdeal.Gen Cert.KernelIdeal.Block Cert.KernelIdeal.Host Cert.Spline

variable (m : (ℓ : Loc nD τ sig) → Buf (Elt Ideal) ℓ)

/-- Every window's block index. -/
theorem idx : ∀ t : Fin cfg0.N, win0_0.index t = ![0, t.val] ∧ win0_1.index t = ![0, t.val] ∧ win0_2.index t = ![0, 0] ∧ win0_3.index t = ![0, 0]
    ∧ win0_4.index t = ![0, 0] ∧ win0_5.index t = ![0, t.val] ∧ win0_6.index t = ![0, t.val] := (by decide +kernel : ∀ t : Fin grid0.N, _)

theorem lane_lt (t : Fin cfg0.N) (l : Fin 32768) : t.val * 32768 + l.val < 524288 := by
  have ht : t.val < 16 := t.isLt
  omega

theorem coord_block (c : Dev nD) (t : Fin cfg0.N) (l : Fin 32768) :
    (iblk m c 0 t : Vec Ideal S1x32768 .f32) (ix2 0 l) = (show FVec Ideal S524288x1 .f32 from m ((c : Thread nD τ).loc main_arg0)) (ix2 ⟨t.val * 32768 + l.val, lane_lt t l⟩ 0) := by
  blk_simp [iblk]
  rw [read_coords]
  pointwise []
  blk_ext [idx t]

theorem row_block (c : Dev nD) (t : Fin cfg0.N) (l : Fin 32768) (k : Fin 8) :
    (iblk m c 1 t : Vec Ideal S8x32768 .f32) (ix2 k l) = (show FVec Ideal S524288x8 .f32 from m ((c : Thread nD τ).loc main_arg1)) (ix2 ⟨t.val * 32768 + l.val, lane_lt t l⟩ k) := by
  blk_simp [iblk]
  rw [read_rows]
  pointwise []
  blk_ext [idx t]

theorem block2 (c : Dev nD) (t : Fin cfg0.N) : (iblk m c 2 t : Vec Ideal S72x9 .f32) = V m c main_call0_v20 := by
  blk_ext! [iblk, idx t]

theorem block3 (c : Dev nD) (t : Fin cfg0.N) : (iblk m c 3 t : Vec Ideal S72x72 .f32) = V m c main_call0_v34 := by
  blk_ext! [iblk, idx t]

theorem block4 (c : Dev nD) (t : Fin cfg0.N) : (iblk m c 4 t : Vec Ideal S96x72 .f32) = V m c main_call0_v40 := by
  blk_ext! [iblk, idx t]

theorem out5_ap (x0 : Vec Ideal S1x32768 .f32) (x1 : Vec Ideal S8x32768 .f32) (x2 : Vec Ideal S72x9 .f32) (x3 : Vec Ideal S72x72 .f32) (x4 : Vec Ideal S96x72 .f32)
    (l : Fin 32768) (th : Fin 95 → ℝ) (hth : ∀ j : Fin 95, k0_pay2 x1 x2 x3 x4 (ix2 ⟨j.val, by omega⟩ l) = ((th j : ℝ) : EReal))
    (hpad : k0_pay2 x1 x2 x3 x4 (ix2 95 l) = ((Real.log (Real.exp (1 - least) - 1) : ℝ) : EReal)) (hx : (x0 (ix2 0 l) : EReal) ≤ 1) :
    out0_5 x0 x1 x2 x3 x4 (ix2 0 l) = rowVal (least : EReal) (x0 (ix2 0 l)) th := by
  unfold_out out0_5
  frame_out
  exact value_of (column_of th hth hpad hx)

theorem out6_ap (x0 : Vec Ideal S1x32768 .f32) (x1 : Vec Ideal S8x32768 .f32) (x2 : Vec Ideal S72x9 .f32) (x3 : Vec Ideal S72x72 .f32) (x4 : Vec Ideal S96x72 .f32)
    (l : Fin 32768) (th : Fin 95 → ℝ) (hth : ∀ j : Fin 95, k0_pay2 x1 x2 x3 x4 (ix2 ⟨j.val, by omega⟩ l) = ((th j : ℝ) : EReal))
    (hpad : k0_pay2 x1 x2 x3 x4 (ix2 95 l) = ((Real.log (Real.exp (1 - least) - 1) : ℝ) : EReal)) (hx : (x0 (ix2 0 l) : EReal) ≤ 1) :
    out0_6 x0 x1 x2 x3 x4 (ix2 0 l) = rowSlope (least : EReal) (x0 (ix2 0 l)) th := by
  unfold_out out0_6
  frame_out
  exact slope_of (column_of th hth hpad hx)

/-! ## The arrays -/

/-- The logits of a row of the arguments. -/
abbrev rowLogits (Z : FVec Ideal S524288x8 .f32) (W1 : FVec Ideal S8x64 .f32) (b1 : FVec Ideal S64 .f32) (W2 : FVec Ideal S64x64 .f32) (b2 : FVec Ideal S64 .f32)
    (W3 : FVec Ideal S64x95 .f32) (b3 : FVec Ideal S95 .f32) (r : Fin 524288) : Fin 95 → EReal :=
  logits (fun k a => W1 (ix2 k a)) (fun a => b1 (ix1 a)) (fun k a => W2 (ix2 k a)) (fun a => b2 (ix1 a)) (fun k a => W3 (ix2 k a)) (fun a => b3 (ix1 a))
    (fun k => Z (ix2 r k))

/-- What is asked of the arguments: coordinates at most one, and rows whose logits are the real numbers `th`. -/
structure Asked (X : FVec Ideal S524288x1 .f32) (Z : FVec Ideal S524288x8 .f32) (W1 : FVec Ideal S8x64 .f32) (b1 : FVec Ideal S64 .f32) (W2 : FVec Ideal S64x64 .f32) (b2 : FVec Ideal S64 .f32)
    (W3 : FVec Ideal S64x95 .f32) (b3 : FVec Ideal S95 .f32) (th : Fin 524288 → Fin 95 → ℝ) : Prop where
  le : ∀ r, X (ix2 r 0) ≤ 1
  eq : ∀ r j, rowLogits Z W1 b1 W2 b2 W3 b3 r j = ((th r j : ℝ) : EReal)

variable (c : Dev nD) (th : Fin 524288 → Fin 95 → ℝ)
  (h : Asked (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) th)

include h

theorem block_logit (t : Fin cfg0.N) (l : Fin 32768) (j : Fin 95) :
    k0_pay2 (iblk m c 1 t) (iblk m c 2 t) (iblk m c 3 t) (iblk m c 4 t) (ix2 ⟨j.val, by omega⟩ l) = ((th ⟨t.val * 32768 + l.val, lane_lt t l⟩ j : ℝ) : EReal) := by
  rw [block2, block3, block4, read1, read2, read3]
  refine (pay2_main (aug1 _ _) (aug2 _ _) (aug3 _ _) l j).trans ?_
  rw [← h.eq]
  unfold rowLogits
  simp only [row_block]

theorem block_pad (t : Fin cfg0.N) (l : Fin 32768) :
    k0_pay2 (iblk m c 1 t) (iblk m c 2 t) (iblk m c 3 t) (iblk m c 4 t) (ix2 95 l) = ((Real.log (Real.exp (1 - least) - 1) : ℝ) : EReal) := by
  rw [block2, block3, block4, read1, read2, read3]
  exact pay2_pad (aug1 _ _) (aug2 _ _) (aug3 _ _) l

/-- The first result: the transformed coordinates. -/
theorem final5 : (dats m 0 c).arrAt 5 (cfgs 0).N
    = fun i : S1x524288.Idx => rowVal (least : EReal) ((show FVec Ideal S524288x1 .f32 from m ((c : Thread nD τ).loc main_arg0)) (ix2 (i 1) 0)) (th (i 1)) := by
  refine (dats m 0 c).arrAt_eq_of_covers 5 _ (by decide +kernel) fun t _ y => ?_
  blk_simp
  rw [after0_5]
  obtain ⟨a, l, rfl⟩ : ∃ (a : Fin 1) (l : Fin 32768), y = ix2 a l := ⟨y 0, y 1, funext fun a => match a with | 0 => rfl | 1 => rfl⟩
  obtain rfl : a = 0 := Subsingleton.elim _ _
  refine (out5_ap _ _ _ _ _ l _ (block_logit m c th h t l) (block_pad m c th h t l) ?_).trans ?_
  · rw [coord_block]; exact h.le _
  · rw [coord_block]
    have e : (⟨t.val * 32768 + l.val, lane_lt t l⟩ : Fin 524288) = (win0_5.blk t).view.emb (ix2 0 l) 1 := Fin.ext (by blk_simp [idx t])
    exact congrArg (fun r : Fin 524288 => rowVal (least : EReal) ((show FVec Ideal S524288x1 .f32 from m ((c : Thread nD τ).loc main_arg0)) (ix2 r 0)) (th r)) e

/-- The second result: the slopes. -/
theorem final6 : (dats m 0 c).arrAt 6 (cfgs 0).N
    = fun i : S1x524288.Idx => rowSlope (least : EReal) ((show FVec Ideal S524288x1 .f32 from m ((c : Thread nD τ).loc main_arg0)) (ix2 (i 1) 0)) (th (i 1)) := by
  refine (dats m 0 c).arrAt_eq_of_covers 6 _ (by decide +kernel) fun t _ y => ?_
  blk_simp
  rw [after0_6]
  obtain ⟨a, l, rfl⟩ : ∃ (a : Fin 1) (l : Fin 32768), y = ix2 a l := ⟨y 0, y 1, funext fun a => match a with | 0 => rfl | 1 => rfl⟩
  obtain rfl : a = 0 := Subsingleton.elim _ _
  refine (out6_ap _ _ _ _ _ l _ (block_logit m c th h t l) (block_pad m c th h t l) ?_).trans ?_
  · rw [coord_block]; exact h.le _
  · rw [coord_block]
    have e : (⟨t.val * 32768 + l.val, lane_lt t l⟩ : Fin 524288) = (win0_6.blk t).view.emb (ix2 0 l) 1 := Fin.ext (by blk_simp [idx t])
    exact congrArg (fun r : Fin 524288 => rowSlope (least : EReal) ((show FVec Ideal S524288x1 .f32 from m ((c : Thread nD τ).loc main_arg0)) (ix2 r 0)) (th r)) e

end Cert.KernelIdeal.Arrays
end
-- ==== Proof.Domain.lean ====
/- What the precondition says of the arguments, and that real arguments have real logits. -/
module

public import proofs.«01_k».proof.Proof.Value
public import proofs.«01_k».proof.Proof.Gen.Pre_in_domain
public import proofs.«01_k».proof.Defs
public import Idealize.ShloMosaic.Lib.Claim
public import Idealize.ShloMosaic.Lib.Tactic.CleanTypes

@[expose] public section

set_option maxRecDepth 16384

noncomputable section

namespace Cert.Domain

open Idealize.ShloMosaic Idealize.ShloMosaic.TcCoe Idealize.SL.Sem
open Cert.Spline Cert.KernelIdeal.Arrays

/-- The float pattern of infinity is the greatest extended real. -/
theorem ofBits_inf : Ideal.ofBits .f32 0x7F800000#32 = ⊤ := by simp [Ideal.ofBits, Ideal.ieee]

/-- A number whose magnitude lies below infinity is a real number. -/
theorem real_of_abs {a : EReal} (h : max a (-a) < ⊤) : ∃ r : ℝ, a = r := by
  induction a with
  | bot => simp at h
  | top => simp at h
  | coe r => exact ⟨r, rfl⟩

/-- An array whose test "the magnitude is below infinity" passes everywhere has real entries. -/
theorem real_of_test {s : Shape} (a : FVec Ideal s .f32) (h : (⟨0, ![]⟩ : Shape).BroadcastsInDim s (![] : Fin 0 → Fin s.rank))
    (ht : cmpf .olt (Host.absf a) (broadcastInDim s ![] h (constant (F := Ideal) ⟨0, ![]⟩ .f32 0x7F800000#32)) = fun _ => 1#1) (i : s.Idx) :
    ∃ r : ℝ, (a i : EReal) = r := by
  refine real_of_abs ?_
  have h1 : BitVec.ofBool (decide ((max (a i) (-(a i)) : EReal) < Ideal.ofBits .f32 0x7F800000#32)) = 1#1 := congrFun ht i
  rw [ofBits_inf] at h1
  by_contra h2
  rw [decide_eq_false h2] at h1
  exact absurd h1 (by decide)

/-- An array whose test "at most one" passes everywhere has entries at most one. -/
theorem le_of_test {s : Shape} (a : FVec Ideal s .f32) (h : (⟨0, ![]⟩ : Shape).BroadcastsInDim s (![] : Fin 0 → Fin s.rank))
    (ht : cmpf .ole a (broadcastInDim s ![] h (constant (F := Ideal) ⟨0, ![]⟩ .f32 0x3F800000#32)) = fun _ => 1#1) (i : s.Idx) :
    (a i : EReal) ≤ 1 := by
  have h1 : BitVec.ofBool (decide ((a i : EReal) ≤ Ideal.ofBits .f32 0x3F800000#32)) = 1#1 := congrFun ht i
  rw [Ideal.ofBits_one_f32] at h1
  by_contra h2
  rw [decide_eq_false h2] at h1
  exact absurd h1 (by decide)

/-- Real rows and real weights have real logits. -/
theorem real_logits (Z : FVec Ideal Cert.Pre_in_domain.S524288x8 .f32) (W1 : FVec Ideal Cert.Pre_in_domain.S8x64 .f32) (b1 : FVec Ideal Cert.Pre_in_domain.S64 .f32)
    (W2 : FVec Ideal Cert.Pre_in_domain.S64x64 .f32) (b2 : FVec Ideal Cert.Pre_in_domain.S64 .f32) (W3 : FVec Ideal Cert.Pre_in_domain.S64x95 .f32) (b3 : FVec Ideal Cert.Pre_in_domain.S95 .f32)
    (hZ : ∀ i, ∃ r : ℝ, (Z i : EReal) = r) (h1 : ∀ i, ∃ r : ℝ, (W1 i : EReal) = r) (h2 : ∀ i, ∃ r : ℝ, (b1 i : EReal) = r) (h3 : ∀ i, ∃ r : ℝ, (W2 i : EReal) = r)
    (h4 : ∀ i, ∃ r : ℝ, (b2 i : EReal) = r) (h5 : ∀ i, ∃ r : ℝ, (W3 i : EReal) = r) (h6 : ∀ i, ∃ r : ℝ, (b3 i : EReal) = r) (r : Fin 524288) :
    Finite (rowLogits Z W1 b1 W2 b2 W3 b3 r) :=
  finite_dense (fun _ _ => h5 _) (fun _ => h6 _) (finite_relu (finite_dense (fun _ _ => h3 _) (fun _ => h4 _)
    (finite_relu (finite_dense (fun _ _ => h1 _) (fun _ => h2 _) fun _ => hZ _))))

/-- The precondition gives what is asked of the arguments. -/
theorem asked (X : FVec Ideal Cert.Pre_in_domain.S524288x1 .f32) (Z : FVec Ideal Cert.Pre_in_domain.S524288x8 .f32) (W1 : FVec Ideal Cert.Pre_in_domain.S8x64 .f32)
    (b1 : FVec Ideal Cert.Pre_in_domain.S64 .f32) (W2 : FVec Ideal Cert.Pre_in_domain.S64x64 .f32) (b2 : FVec Ideal Cert.Pre_in_domain.S64 .f32)
    (W3 : FVec Ideal Cert.Pre_in_domain.S64x95 .f32) (b3 : FVec Ideal Cert.Pre_in_domain.S95 .f32)
    (h : (Cert.Pre_in_domain.fn (F := Ideal) X Z W1 b1 W2 b2 W3 b3).1 = (fun _ => 1#1)
      ∧ (Cert.Pre_in_domain.fn (F := Ideal) X Z W1 b1 W2 b2 W3 b3).2.1 = (fun _ => 1#1)
      ∧ (Cert.Pre_in_domain.fn (F := Ideal) X Z W1 b1 W2 b2 W3 b3).2.2.1 = (fun _ => 1#1)
      ∧ (Cert.Pre_in_domain.fn (F := Ideal) X Z W1 b1 W2 b2 W3 b3).2.2.2.1 = (fun _ => 1#1)
      ∧ (Cert.Pre_in_domain.fn (F := Ideal) X Z W1 b1 W2 b2 W3 b3).2.2.2.2.1 = (fun _ => 1#1)
      ∧ (Cert.Pre_in_domain.fn (F := Ideal) X Z W1 b1 W2 b2 W3 b3).2.2.2.2.2.1 = (fun _ => 1#1)
      ∧ (Cert.Pre_in_domain.fn (F := Ideal) X Z W1 b1 W2 b2 W3 b3).2.2.2.2.2.2.1 = (fun _ => 1#1)
      ∧ (Cert.Pre_in_domain.fn (F := Ideal) X Z W1 b1 W2 b2 W3 b3).2.2.2.2.2.2.2 = (fun _ => 1#1)) :
    ∃ th : Fin 524288 → Fin 95 → ℝ, Asked X Z W1 b1 W2 b2 W3 b3 th := by
  obtain ⟨h0, h1, h2, h3, h4, h5, h6, h7⟩ := h
  have hf := fun r => real_logits Z W1 b1 W2 b2 W3 b3 (real_of_test Z _ h1) (real_of_test W1 _ h2) (real_of_test b1 _ h3) (real_of_test W2 _ h4)
    (real_of_test b2 _ h5) (real_of_test W3 _ h6) (real_of_test b3 _ h7) r
  choose th hth using hf
  exact ⟨th, fun r => le_of_test X _ h0 _, hth⟩

end Cert.Domain

end
-- ==== Proof.Ops.lean ====
/- Four array operations read at one index, for the reference: the largest entry of a row, the running sum along a
   row, the number of marked entries of a row, and the entry of each row that a pair of numbers names. -/
module

public import proofs.«01_k».proof.Proof.Spline
public import Idealize.ShloMosaic.Lib.Pointwise
public import Idealize.ShloMosaic.Lib.Routing.OpsSet

@[expose] public section

noncomputable section

namespace Cert.RowOps

open Idealize.ShloMosaic Idealize.ShloMosaic.Routing
open scoped BigOperators

/-- The maximum along the rows of a matrix, at one row. -/
theorem row_max {n p : ℕ} (v : FVec Ideal (shape2 n p) .f32) (w : BitVec 32) (h : (shape2 n p).ReducesTo [1] (shape1 n)) (hu : 0 < shape0.numel)
    (r : Fin n) :
    Host.reduce FloatOps.maximumf v (constant (F := Ideal) shape0 .f32 w) h hu (ix1 r)
      = Finset.univ.fold max (Ideal.ofBits .f32 w) (fun k : Fin p => v (ix2 r k)) := by
  pointwise []

/-- Adding the terms of a list one after the other is adding their sum. -/
theorem foldl_sum {ι : Type*} (g : ι → EReal) (l : List ι) (a : EReal) : l.foldl (fun s n => s + g n) a = a + (l.map g).sum := by
  induction l generalizing a with
  | nil => simp
  | cons b l ih => rw [List.foldl_cons, ih, List.map_cons, List.sum_cons, add_assoc]

/-- A window of the whole length that starts `p` places before the row: the terms it shares with the row are the
    row's first ones. -/
theorem sum_shifted {p : ℕ} (f : Fin (p + 1) → EReal) (j : Fin (p + 1)) :
    ∑ n : Fin (p + 1), (if h : p ≤ j.val + n.val then f ⟨j.val + n.val - p, by omega⟩ else 0)
      = ∑ k ∈ Finset.univ.filter (fun k : Fin (p + 1) => k.val < j.val + 1), f k := by
  have hj := j.isLt
  rw [← Finset.sum_filter_add_sum_filter_not Finset.univ (fun n : Fin (p + 1) => p ≤ j.val + n.val),
    Finset.sum_eq_zero (s := Finset.univ.filter fun n : Fin (p + 1) => ¬ p ≤ j.val + n.val)
      (fun n hn => dif_neg (Finset.mem_filter.mp hn).2), add_zero]
  refine Finset.sum_bij' (fun n _ => if h : p ≤ j.val + n.val then ⟨j.val + n.val - p, by omega⟩ else 0)
    (fun k _ => if h : k.val < j.val + 1 then ⟨p + k.val - j.val, by omega⟩ else 0) ?_ ?_ ?_ ?_ ?_
  · intro n hn
    have h := (Finset.mem_filter.mp hn).2
    have hl := n.isLt
    simp only [dif_pos h, Finset.mem_filter, Finset.mem_univ, true_and]
    omega
  · intro k hk
    have h := (Finset.mem_filter.mp hk).2
    simp only [dif_pos h, Finset.mem_filter, Finset.mem_univ, true_and]
    omega
  · intro n hn
    have h := (Finset.mem_filter.mp hn).2
    have hl := n.isLt
    simp only [dif_pos h]
    rw [dif_pos (by omega)]
    apply Fin.ext
    simp only
    omega
  · intro k hk
    have h := (Finset.mem_filter.mp hk).2
    simp only [dif_pos h]
    rw [dif_pos (by omega)]
    apply Fin.ext
    simp only
    omega
  · intro n hn
    have h := (Finset.mem_filter.mp hn).2
    simp only [dif_pos h]

/-- The running sum along the rows of a matrix, written as sums over windows of the whole length: entry `j` of a row
    is the sum of the row's entries up to and including `j`. -/
theorem running_sum {n p q : ℕ} (hq : p + 1 = q) (x : FVec Ideal (shape2 n q) .f32) (init : FVec Ideal shape0 .f32) (hinit : init ix0 = (0 : EReal))
    (h : (shape2 n q).ReduceWindows (![1, q] : Fin 2 → ℕ) ![1, 1] ![0, p] ![0, 0] (shape2 n q)) (hu : 0 < shape0.numel) (r : Fin n) (j : Fin q) :
    (Host.reduceWindowAdd ![1, q] ![1, 1] ![0, p] ![0, 0] x init h hu (ix2 r j) : EReal)
      = ∑ k ∈ Finset.univ.filter (fun k : Fin q => k.val < j.val + 1), (x (ix2 r k) : EReal) := by
  subst hq
  have hv : init (Shape.Idx.first hu) = (0 : EReal) := (congrArg init (funext fun a => a.elim0)).trans hinit
  rw [← sum_shifted (fun k => x (ix2 r k)) j]
  show Host.reduceWindow (α := EReal) (· + ·) ![1, p + 1] ![1, 1] ![0, p] ![0, 0] x (fun _ : (⟨0, ![]⟩ : Shape).Idx => init (Shape.Idx.first hu)) h hu (ix2 r j) = _
  unfold Host.reduceWindow
  refine (foldl_sum _ _ _).trans ?_
  rw [hv, zero_add, ← Fin.sum_univ_def]
  refine Fintype.sum_equiv (finCongr (numel2 (p + 1))) _ _ fun n => ?_
  have hw0 : ((shape2 1 (p + 1)).rowMajor.symm n 0).val = 0 := by rw [symm2]; rfl
  have hw : ((shape2 1 (p + 1)).rowMajor.symm n 1).val = n.val := by rw [symm2]; rfl
  have hn : n.val < p + 1 := (n.cast (numel2 _)).isLt
  have hj := j.isLt
  have hr := r.isLt
  refine Eq.trans ?_ (show (if h : p ≤ j.val + n.val then x (ix2 r ⟨j.val + n.val - p, by omega⟩) else (0 : EReal)) = _ from rfl)
  dsimp only
  split
  · next hin =>
    have h1 := hin 1
    change p ≤ j.val * 1 + ((shape2 1 (p + 1)).rowMajor.symm n 1).val
      ∧ j.val * 1 + ((shape2 1 (p + 1)).rowMajor.symm n 1).val - p < p + 1 at h1
    rw [hw] at h1
    rw [dif_pos (by omega)]
    refine congrArg x (funext fun a => Fin.ext ?_)
    match a with
    | ⟨0, _⟩ =>
      show r.val * 1 + ((shape2 1 (p + 1)).rowMajor.symm n 0).val - 0 = r.val
      rw [hw0]; omega
    | ⟨1, _⟩ =>
      show j.val * 1 + ((shape2 1 (p + 1)).rowMajor.symm n 1).val - p = j.val + n.val - p
      rw [hw, Nat.mul_one]
  · next hin =>
    rw [dif_neg fun hle => hin fun a => by
      match a with
      | ⟨0, _⟩ =>
        show 0 ≤ r.val * 1 + ((shape2 1 (p + 1)).rowMajor.symm n 0).val ∧ r.val * 1 + ((shape2 1 (p + 1)).rowMajor.symm n 0).val - 0 < _
        rw [hw0]
        exact ⟨Nat.zero_le _, by simpa using hr⟩
      | ⟨1, _⟩ =>
        show p ≤ j.val * 1 + ((shape2 1 (p + 1)).rowMajor.symm n 1).val
          ∧ j.val * 1 + ((shape2 1 (p + 1)).rowMajor.symm n 1).val - p < p + 1
        rw [hw]
        omega]

/-- The number of entries of a row that are marked, where those marked are the first `b` of them. -/
theorem row_count {n p : ℕ} (hp : p < 2 ^ 32) (msk : IVec (shape2 n p) 1) (hw : 1 < 32) (h : (shape2 n p).ReducesTo [1] (shape1 n))
    (hu : 0 < shape0.numel) (r : Fin n) (b : ℕ) (hb : b ≤ p) (hm : ∀ k : Fin p, msk (ix2 r k) = 1#1 ↔ k.val < b) :
    Host.reduce IntOp.addi (extui 32 msk hw) (constantI shape0 32 0#32) h hu (ix1 r) = BitVec.ofNat 32 b := by
  refine (reduce_count hp msk hw h hu r (fun k => k < b) hm).trans (congrArg _ ?_)
  rw [Nat.count_eq_card_filter_range, show (Finset.range p).filter (fun k => k < b) = Finset.range b by
    ext k; simp only [Finset.mem_filter, Finset.mem_range]; omega, Finset.card_range]

/-- The dimension numbers of the selection that takes one entry of each row, its row and its column given as a pair. -/
abbrev pairDims (n p : ℕ) (wf : GatherDims.WF (shape2 n p) (shape2 n 2) (shape1 n) [] [0, 1] [] [0, 1] [] 1 ![1, 1]) :
    GatherDims (shape2 n p) (shape2 n 2) (shape1 n) where
  offsetDims := []
  collapsedSliceDims := [0, 1]
  operandBatchingDims := []
  startIndicesBatchingDims := []
  startIndexMap := [0, 1]
  indexVectorDim := 1
  sliceSizes := ![1, 1]
  wf := wf

/-- The selection read at one index: where the pair holds a row and a column of the matrix, it is the entry there. -/
theorem select_pair {n p : ℕ} (hn : n < 2 ^ 31) (hp : p < 2 ^ 31) {α : Type}
    (wf : GatherDims.WF (shape2 n p) (shape2 n 2) (shape1 n) [] [0, 1] [] [0, 1] [] 1 ![1, 1])
    (x : (shape2 n p).Idx → α) (idx : IVec (shape2 n 2) 32) (r a : Fin n) (b : Fin p)
    (ha : idx (ix2 r (0 : Fin 2)) = BitVec.ofNat 32 a.val) (hb : idx (ix2 r (1 : Fin 2)) = BitVec.ofNat 32 b.val) :
    Host.gather (pairDims n p wf) x idx (ix1 r) = x (ix2 a b) := by
  have hal := a.isLt
  have hbl := b.isLt
  unfold Host.gather
  refine congrArg x (funext fun c => Fin.ext ?_)
  show (pairDims n p wf).start (ix1 r) idx c + (pairDims n p wf).batchCoord (ix1 r) c + (pairDims n p wf).offCoord (ix1 r) c = _
  have hc : c ∈ ([0, 1] : List (Fin 2)) := by
    match c with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hc)]
  simp only [Nat.add_zero]
  unfold GatherDims.start
  rw [dif_pos (show c ∈ (pairDims n p wf).startIndexMap from hc)]
  match c with
  | ⟨0, _⟩ =>
    have hsi : (pairDims n p wf).siIdx (ix1 r) ⟨List.idxOf (0 : Fin 2) (pairDims n p wf).startIndexMap,
        List.idxOf_lt_length_iff.2 List.mem_cons_self⟩ = ix2 r (0 : Fin 2) := by
      funext d; refine Fin.ext ?_
      match d with
      | ⟨0, _⟩ => rfl
      | ⟨1, _⟩ => rfl
    refine (congrArg (fun i => min (idx i).toInt.toNat (n - 1)) hsi).trans ?_
    show min (idx (ix2 r (0 : Fin 2))).toInt.toNat (n - 1) = a.val
    rw [ha, StableHlo.Predicate.toInt_ofNat_small _ (by omega)]
    omega
  | ⟨1, _⟩ =>
    have hsi : (pairDims n p wf).siIdx (ix1 r) ⟨List.idxOf (1 : Fin 2) (pairDims n p wf).startIndexMap,
        List.idxOf_lt_length_iff.2 (List.mem_cons_of_mem _ List.mem_cons_self)⟩ = ix2 r (1 : Fin 2) := by
      funext d; refine Fin.ext ?_
      match d with
      | ⟨0, _⟩ => rfl
      | ⟨1, _⟩ => rfl
    refine (congrArg (fun i => min (idx i).toInt.toNat (p - 1)) hsi).trans ?_
    show min (idx (ix2 r (1 : Fin 2))).toInt.toNat (p - 1) = b.val
    rw [hb, StableHlo.Predicate.toInt_ofNat_small _ (by omega)]
    omega

end Cert.RowOps

end
-- ==== Proof.Rows.lean ====
/- The reference's arrays read at one row: the logits, the bin weights, the knots and the slopes at the knots. -/
module

public import proofs.«01_k».proof.Proof.Gen.ReferenceIdeal.Run
public import proofs.«01_k».proof.Proof.Ops
public import Idealize.ShloMosaic.Lib.Claim
public import Idealize.ShloMosaic.Lib.Tactic.CleanTypes

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Value Cert.Spline Cert.RowOps
open scoped BigOperators

variable (V0 : Valuation τ sig (Elt Ideal)) (r : Fin 524288)

/-- A sum of real numbers is the same sum among the extended ones. -/
theorem coe_sum_filter (s : Finset (Fin 32)) (f : Fin 32 → ℝ) : ∑ k ∈ s, ((f k : ℝ) : EReal) = ((∑ k ∈ s, f k : ℝ) : EReal) := by
  induction s using Finset.cons_induction with
  | empty => simp
  | cons a s ha ih => rw [Finset.sum_cons, Finset.sum_cons, ih, EReal.coe_add]

/-! ## Operations on whole arrays, at one row -/

/-- The greatest entry of each row. -/
theorem largest (v : FVec Ideal S524288x32 .f32) (w : BitVec 32) :
    Host.reduce FloatOps.maximumf v (constant (F := Ideal) S_ .f32 w) reducesTo_S524288x32_S524288_d1 h_S_ (ix1 r)
      = Finset.univ.fold max (Ideal.ofBits .f32 w : EReal) (fun k : Fin 32 => v (ix2 r k)) := by
  exact row_max v w reducesTo_S524288x32_S524288_d1 h_S_ r

/-- The greatest entry of a row of real numbers. -/
theorem largest_real (v : FVec Ideal S524288x32 .f32) (f : Fin 32 → ℝ) (hv : ∀ j, v (ix2 r j) = ((f j : ℝ) : EReal)) :
    Host.reduce FloatOps.maximumf v (constant (F := Ideal) S_ .f32 0xFF800000#32) reducesTo_S524288x32_S524288_d1 h_S_ (ix1 r)
      = ((top f : ℝ) : EReal) := by
  refine (largest r v _).trans ?_
  rw [← fold_top f, ofBits_neg_inf]
  exact congrArg (fun g => Finset.univ.fold max (⊥ : EReal) g) (funext hv)

/-- The exponentials of a row less a number of the row. -/
theorem shifted (v : FVec Ideal S524288x32 .f32) (M : FVec Ideal S524288 .f32) (j : Fin 32) :
    Host.exp (subf v (broadcastInDim S524288x32 ![0, 1] bcast_S524288x1_S524288x32_0_1 (broadcastInDim S524288x1 ![0] bcast_S524288_S524288x1_0
      (maximumf (broadcastInDim S524288 ![] bcast_S_S524288 (constant S_ .f32 0xFF800000#32)) M)))) (ix2 r j)
      = Ideal.exp (v (ix2 r j) - M (ix1 r)) := by
  pointwise []
  rw [ofBits_neg_inf, max_eq_right bot_le]

/-- The exponentials of a row of real numbers, the greatest of them taken off first. -/
theorem weights (v : FVec Ideal S524288x32 .f32) (f : Fin 32 → ℝ) (hv : ∀ j, v (ix2 r j) = ((f j : ℝ) : EReal)) (j : Fin 32) :
    Host.exp (subf v (broadcastInDim S524288x32 ![0, 1] bcast_S524288x1_S524288x32_0_1 (broadcastInDim S524288x1 ![0] bcast_S524288_S524288x1_0
      (maximumf (broadcastInDim S524288 ![] bcast_S_S524288 (constant S_ .f32 0xFF800000#32))
        (Host.reduce FloatOps.maximumf v (constant S_ .f32 0xFF800000#32) reducesTo_S524288x32_S524288_d1 h_S_))))) (ix2 r j)
      = ((wgt f j : ℝ) : EReal) :=
  (shifted r v _ j).trans ((congrArg₂ (fun a b : EReal => Ideal.exp (a - b)) (hv j) (largest_real r v f hv)).trans (exp_wgt f j))

/-- The running sum of each row. -/
theorem running (x : FVec Ideal S524288x32 .f32) (j : Fin 32) :
    (Host.reduceWindowAdd ![1, 32] ![1, 1] ![0, 31] ![0, 0] x (broadcastInDim S_ ![] bcast_S_S_ (constant S_ .f32 0x00000000#32))
      reduceWindows_S524288x32_S524288x32_w1s1p0_0_w32s1p31_0 h_S_ (ix2 r j) : EReal)
      = ∑ k ∈ Finset.univ.filter (fun k : Fin 32 => k.val < j.val + 1), (x (ix2 r k) : EReal) :=
  running_sum (p := 31) rfl x _ (by pointwise []) reduceWindows_S524288x32_S524288x32_w1s1p0_0_w32s1p31_0 h_S_ r j

/-- The share of each bin in the interval of length two. -/
theorem shares (e : FVec Ideal S524288x32 .f32) (w : Fin 32 → ℝ) (hw : ∀ j, 0 < w j) (he : ∀ j, e (ix2 r j) = ((w j : ℝ) : EReal)) (j : Fin 32) :
    mulf (Host.divf e (broadcastInDim S524288x32 ![0, 1] bcast_S524288x1_S524288x32_0_1 (broadcastInDim S524288x1 ![0] bcast_S524288_S524288x1_0
      (Host.reduceAdd e (constant S_ .f32 0x00000000#32) reducesTo_S524288x32_S524288_d1 h_S_))))
      (broadcastInDim S524288x32 ![] bcast_S_S524288x32 (constant S_ .f32 0x40000000#32)) (ix2 r j)
      = ((w j * (2 / pre w 32) : ℝ) : EReal) := by
  have hS := pre_all_pos w hw
  pointwise []
  rw [he, show ∑ k, e (ix2 r k) = ((pre w 32 : ℝ) : EReal) by rw [pre_all, ← coe_sum]; exact Finset.sum_congr rfl fun k _ => he k,
    ofBits_two, Ideal.div_coe hS.ne', ← EReal.coe_mul, ← EReal.coe_mul, EReal.coe_eq_coe_iff]
  ring

/-- The knots: the running sum of the shares after a zero, one taken off. -/
theorem knots (e : FVec Ideal S524288x32 .f32) (w : Fin 32 → ℝ) (hw : ∀ j, 0 < w j) (he : ∀ j, e (ix2 r j) = ((w j : ℝ) : EReal)) (n : Fin 33) :
    addf (pad S524288x33 ![0, 1] ![0, 0] ![0, 0] (Host.reduceWindowAdd ![1, 32] ![1, 1] ![0, 31] ![0, 0]
        (mulf (Host.divf e (broadcastInDim S524288x32 ![0, 1] bcast_S524288x1_S524288x32_0_1 (broadcastInDim S524288x1 ![0] bcast_S524288_S524288x1_0
          (Host.reduceAdd e (constant S_ .f32 0x00000000#32) reducesTo_S524288x32_S524288_d1 h_S_))))
          (broadcastInDim S524288x32 ![] bcast_S_S524288x32 (constant S_ .f32 0x40000000#32)))
        (broadcastInDim S_ ![] bcast_S_S_ (constant S_ .f32 0x00000000#32)) reduceWindows_S524288x32_S524288x32_w1s1p0_0_w32s1p31_0 h_S_)
        (id (constant S_ .f32 0x00000000#32)) pads_S524288x32_S524288x33_000_100 h_S_)
      (broadcastInDim S524288x33 ![] bcast_S_S524288x33 (constant S_ .f32 0xBF800000#32)) (ix2 r n)
      = ((knot w n.val : ℝ) : EReal) := by
  have hs := shares r e w hw he
  generalize mulf (Host.divf e (broadcastInDim S524288x32 ![0, 1] bcast_S524288x1_S524288x32_0_1 (broadcastInDim S524288x1 ![0] bcast_S524288_S524288x1_0
          (Host.reduceAdd e (constant S_ .f32 0x00000000#32) reducesTo_S524288x32_S524288_d1 h_S_))))
          (broadcastInDim S524288x32 ![] bcast_S_S524288x32 (constant S_ .f32 0x40000000#32)) = x at hs ⊢
  have hn := n.isLt
  pointwise []
  rw [ofBits_neg_one]
  unfold knot
  split
  · next h =>
    rw [running, Finset.sum_congr rfl fun k _ => hs k, coe_sum_filter, ← EReal.coe_add, EReal.coe_eq_coe_iff, ← Finset.sum_mul, sub_eq_add_neg]
    congr 2
    unfold pre
    rw [show n.val - 1 + 1 = n.val by omega]
  · next h =>
    rw [show n.val = 0 by omega, pre_zero]
    show Ideal.ofBits .f32 0x00000000#32 + _ = _
    rw [show Ideal.ofBits .f32 0x00000000#32 = ((0 : ℝ) : EReal) by simp, ← EReal.coe_add, EReal.coe_eq_coe_iff]
    ring

/-! ## The reference's arrays -/

/-- A row's logits. -/
theorem v13_at (j : Fin 95) :
    (show FVec Ideal S524288x95 .f32 from res_main_v13 (F := Ideal) V0) (ix2 r j)
      = logits (fun k a => (show FVec Ideal S8x64 .f32 from V0 (Proc.devRef .tc main_arg2)) (ix2 k a))
          (fun a => (show FVec Ideal S64 .f32 from V0 (Proc.devRef .tc main_arg3)) (ix1 a))
          (fun k a => (show FVec Ideal S64x64 .f32 from V0 (Proc.devRef .tc main_arg4)) (ix2 k a))
          (fun a => (show FVec Ideal S64 .f32 from V0 (Proc.devRef .tc main_arg5)) (ix1 a))
          (fun k a => (show FVec Ideal S64x95 .f32 from V0 (Proc.devRef .tc main_arg6)) (ix2 k a))
          (fun a => (show FVec Ideal S95 .f32 from V0 (Proc.devRef .tc main_arg7)) (ix1 a))
          (fun k => (show FVec Ideal S524288x8 .f32 from V0 (Proc.devRef .tc main_arg1)) (ix2 r k)) j := by
  unfold res_main_v13
  clean_types
  pointwise []
  unfold logits dense relu
  with_reducible rfl

variable {V0 r} {th : Fin 95 → ℝ} (hv : ∀ j, (show FVec Ideal S524288x95 .f32 from res_main_v13 (F := Ideal) V0) (ix2 r j) = ((th j : ℝ) : EReal))

include hv in
theorem v14_at (j : Fin 32) :
    (show FVec Ideal S524288x32 .f32 from res_main_v14 (F := Ideal) V0) (ix2 r j) = ((th ⟨j.val, by omega⟩ : ℝ) : EReal) := by
  unfold res_main_v14
  clean_types
  pointwise []
  exact hv _

include hv in
theorem v15_at (j : Fin 32) :
    (show FVec Ideal S524288x32 .f32 from res_main_v15 (F := Ideal) V0) (ix2 r j) = ((th ⟨32 + j.val, by omega⟩ : ℝ) : EReal) := by
  unfold res_main_v15
  clean_types
  pointwise []
  exact hv _

include hv in
/-- A row's width weights. -/
theorem v23_at (j : Fin 32) : (show FVec Ideal S524288x32 .f32 from res_main_v23 (F := Ideal) V0) (ix2 r j) = ((wid th j : ℝ) : EReal) := by
  unfold res_main_v23
  exact weights r (res_main_v14 (F := Ideal) V0) _ (v14_at hv) j

include hv in
/-- A row's height weights. -/
theorem v36_at (j : Fin 32) : (show FVec Ideal S524288x32 .f32 from res_main_v36 (F := Ideal) V0) (ix2 r j) = ((hei th j : ℝ) : EReal) := by
  unfold res_main_v36
  exact weights r (res_main_v15 (F := Ideal) V0) _ (v15_at hv) j

include hv in
/-- A row's knots along the first axis. -/
theorem v46_at (n : Fin 33) : (show FVec Ideal S524288x33 .f32 from res_main_v46 (F := Ideal) V0) (ix2 r n) = ((knot (wid th) n.val : ℝ) : EReal) := by
  unfold res_main_v46
  exact knots r (res_main_v23 (F := Ideal) V0) _ (fun j => wgt_pos _ j) (v23_at hv) n

include hv in
/-- A row's knots along the second axis. -/
theorem v50_at (n : Fin 33) : (show FVec Ideal S524288x33 .f32 from res_main_v50 (F := Ideal) V0) (ix2 r n) = ((knot (hei th) n.val : ℝ) : EReal) := by
  unfold res_main_v50
  exact knots r (res_main_v36 (F := Ideal) V0) _ (fun j => wgt_pos _ j) (v36_at hv) n

include hv in
/-- A row's slopes at the knots. -/
theorem v54_at (n : Fin 33) : (show FVec Ideal S524288x33 .f32 from res_main_v54 (F := Ideal) V0) (ix2 r n) = Spline.deriv (least : EReal) (der th) n.val := by
  have hn := n.isLt
  unfold res_main_v54 res_main_call6_v3 res_main_call6_cst res_main_v16
  clean_types
  pointwise []
  unfold Spline.deriv
  by_cases h : 1 ≤ n.val ∧ n.val - 1 < 31
  · rw [dif_pos h, dif_pos ⟨h.1, by omega⟩, if_neg (by simp), ofBits_least]
    unfold soft der
    have := hv ⟨64 + (n.val - 1), by omega⟩
    rw [← this]
    rfl
  · rw [dif_neg h, dif_neg (by omega)]
    show Ideal.ofBits .f32 0x3F800000#32 = 1
    exact Ideal.ofBits_one_f32

end Cert.ReferenceIdeal.Rows

end
-- ==== Proof.Bins.lean ====
/- The reference's choice of a bin at one row, the six numbers it selects by it, and its two results. -/
module

public import proofs.«01_k».proof.Proof.Rows

@[expose] public section

set_option maxRecDepth 16384

noncomputable section

namespace Cert.ReferenceIdeal.Rows

open Idealize.ShloMosaic Idealize.ShloMosaic.TcCoe Idealize.SL.Sem
open Cert.ReferenceIdeal Cert.ReferenceIdeal.Gen Cert.ReferenceIdeal.Value Cert.Spline Cert.RowOps
open scoped BigOperators

/-! ## Selecting by row and bin -/

/-- The pair of coordinates that a selection reads: the row's own number and the row's bin. -/
abbrev pairs (q : IVec S524288 32) : IVec S524288x2 32 :=
  concatenate S524288x2 1 [⟨S524288x1, (broadcastInDim S524288x1 ![0] bcast_S524288_S524288x1_0
      (select (cmpi .slt (iotaInDim S524288 32 0) (broadcastInDim S524288 ![] bcast_S_S524288 (constantI S_ 32 0#32)))
        (addi (iotaInDim S524288 32 0) (broadcastInDim S524288 ![] bcast_S_S524288 (constantI S_ 32 524288#32))) (iotaInDim S524288 32 0)))⟩,
    ⟨S524288x1, (broadcastInDim S524288x1 ![0] bcast_S524288_S524288x1_0
      (select (cmpi .slt q (broadcastInDim S524288 ![] bcast_S_S524288 (constantI S_ 32 0#32)))
        (addi q (broadcastInDim S524288 ![] bcast_S_S524288 (constantI S_ 32 33#32))) q))⟩] concatenates_S524288x1_S524288x1_S524288x2_d1

/-- A small number is not negative, so it is taken as it is. -/
theorem keep (a : ℕ) (ha : a < 2 ^ 31) (w : BitVec 32) :
    Scalar.select (IntOp.cmpi CmpIPredicate.slt (BitVec.ofNat 32 a) 0#32) w (BitVec.ofNat 32 a) = BitVec.ofNat 32 a := by
  have h : IntOp.cmpi CmpIPredicate.slt (BitVec.ofNat 32 a) 0#32 = 0#1 := by
    show BitVec.ofBool (BitVec.slt (BitVec.ofNat 32 a) 0#32) = 0#1
    rw [BitVec.slt, StableHlo.Predicate.toInt_ofNat_small a ha, decide_eq_false (by simp)]
    rfl
  rw [h]
  rfl

theorem pairs_row (q : IVec S524288 32) (r : Fin 524288) : pairs q (ix2 r 0) = BitVec.ofNat 32 r.val := by
  have hr := r.isLt
  pointwise []
  exact keep r.val (by omega) _

theorem pairs_bin (q : IVec S524288 32) (r : Fin 524288) (b : ℕ) (hb : b < 33) (hq : q (ix1 r) = BitVec.ofNat 32 b) : pairs q (ix2 r 1) = BitVec.ofNat 32 b := by
  pointwise []
  rw [hq]
  exact keep b (by omega) _

/-- A selection read at a row. -/
theorem selected (x : FVec Ideal S524288x33 .f32) (q : IVec S524288 32) (r : Fin 524288) (b : Fin 33) (hq : q (ix1 r) = BitVec.ofNat 32 b.val) :
    Host.gather gather_S524288x33_S524288x2_S524288_n_01_n_n_01_1_11 x (pairs q) (ix1 r) = x (ix2 r b) :=
  select_pair (by norm_num) (by norm_num) gather_S524288x33_S524288x2_S524288_n_01_n_n_01_1_11_wf x (pairs q) r r b (pairs_row q r)
    (pairs_bin q r b.val b.isLt hq)

/-! ## The bin of a row -/

/-- The number of a row's knots that lie before its coordinate. -/
theorem counted (x : FVec Ideal S524288x33 .f32) (c : FVec Ideal S524288x1 .f32) (r : Fin 524288) (b : ℕ) (hb : b ≤ 33)
    (hm : ∀ k : Fin 33, (x (ix2 r k) : EReal) < c (ix2 r 0) ↔ k.val < b) :
    Host.reduce IntOp.addi (extui 32 (cmpf .olt x (broadcastInDim S524288x33 ![0, 1] bcast_S524288x1_S524288x33_0_1 c)) natLt_1_32)
      (constantI S_ 32 0#32) reducesTo_S524288x33_S524288_d1 h_S_ (ix1 r) = BitVec.ofNat 32 b := by
  have h1 : ∀ k : Fin 33, cmpf .olt x (broadcastInDim S524288x33 ![0, 1] bcast_S524288x1_S524288x33_0_1 c) (ix2 r k) = 1#1 ↔ k.val < b := fun k => by
    rw [← hm k]
    pointwise []
    by_cases h : (x (ix2 r k) : EReal) < c (ix2 r 0)
    · simp [h]
    · simp [h]
  generalize cmpf .olt x (broadcastInDim S524288x33 ![0, 1] bcast_S524288x1_S524288x33_0_1 c) = msk at h1 ⊢
  exact row_count (by norm_num) msk natLt_1_32 reducesTo_S524288x33_S524288_d1 h_S_ r b hb h1

variable {V0 : Valuation τ sig (Elt Ideal)} {r : Fin 524288}
  {th : Fin 95 → ℝ} (hv : ∀ j, (show FVec Ideal S524288x95 .f32 from res_main_v13 (F := Ideal) V0) (ix2 r j) = ((th j : ℝ) : EReal))

/-- A row's coordinate. -/
abbrev coord (V0 : Valuation τ sig (Elt Ideal)) (r : Fin 524288) : EReal := (show FVec Ideal S524288x1 .f32 from V0 (Proc.devRef .tc main_arg0)) (ix2 r 0)

variable (hx : coord V0 r ≤ 1)

/-- The number of knots before a row's coordinate. -/
def before (V0 : Valuation τ sig (Elt Ideal)) (r : Fin 524288) (th : Fin 95 → ℝ) : ℕ := by
  classical exact if ((-1 : ℝ) : EReal) < coord V0 r then bin (wid th) (coord V0 r) + 1 else 0

/-- The bin is one less than that number, or the first bin where no knot is before the coordinate. -/
theorem before_bin (hx : coord V0 r ≤ 1) : before V0 r th ≤ 32 ∧ before V0 r th - 1 = bin (wid th) (coord V0 r) := by
  have hp : ∀ j, 0 < wid th j := fun j => wgt_pos _ j
  have hb := bin_lt (wid th) hp _ hx
  unfold before
  split
  · omega
  · next h =>
    refine ⟨by omega, ?_⟩
    by_contra hn
    have h0 := (below_iff (wid th) (coord V0 r) 0 hp).mpr (by show 0 < _; omega)
    unfold Below at h0
    have h1 := (knot_lt_iff (wid th) hp _ hx _).mp h0
    have h2 := (count_knots (wid th) hp _ hx 1).mp h1
    exact h h2.2

include hv hx in
theorem v59_at : (show IVec S524288 32 from res_main_v59 (F := Ideal) V0) (ix1 r) = BitVec.ofNat 32 (before V0 r th) := by
  have hp : ∀ j, 0 < wid th j := fun j => wgt_pos _ j
  unfold res_main_v59
  refine counted (res_main_v46 (F := Ideal) V0) (V0 (Proc.devRef .tc main_arg0)) r _ ((before_bin (th := th) hx).1.trans (by norm_num)) fun k => ?_
  refine (iff_of_eq (congrArg (fun a : EReal => a < coord V0 r) (v46_at hv k))).trans ((count_knots (wid th) hp _ hx k).trans ?_)
  unfold before
  split
  · next h => exact and_iff_left h
  · next h => exact ⟨fun q => absurd q.2 h, fun q => absurd q (by omega)⟩

/-- The count less one, a count of none raised first to one. -/
theorem v67_of (n : ℕ) (h : (show IVec S524288 32 from res_main_v59 (F := Ideal) V0) (ix1 r) = BitVec.ofNat 32 n) (hn : n ≤ 32) :
    (show IVec S524288 32 from res_main_v67 (F := Ideal) V0) (ix1 r) = BitVec.ofNat 32 (n - 1) := by
  unfold res_main_v67 res_main_v62
  clean_types
  pointwise []
  have h' : res_main_v59 (F := Ideal) V0 (ix1 r) = BitVec.ofNat 32 n := h
  rw [h']
  clear h h'
  interval_cases n <;> rfl

include hv hx in
theorem v67_at : (show IVec S524288 32 from res_main_v67 (F := Ideal) V0) (ix1 r) = BitVec.ofNat 32 (bin (wid th) (coord V0 r)) := by
  rw [v67_of _ (v59_at hv hx) (before_bin hx).1, (before_bin hx).2]

include hv hx in
theorem v69_at : (show IVec S524288 32 from res_main_v69 (F := Ideal) V0) (ix1 r) = BitVec.ofNat 32 (bin (wid th) (coord V0 r) + 1) := by
  have h : res_main_v67 (F := Ideal) V0 (ix1 r) = BitVec.ofNat 32 (bin (wid th) (coord V0 r)) := v67_at hv hx
  unfold res_main_v69
  clean_types
  pointwise []
  rw [h, BitVec.ofNat_add]
  rfl

/-! ## The six numbers of a row's bin -/

include hv hx in
theorem v84_at : (show FVec Ideal S524288 .f32 from res_main_v84 (F := Ideal) V0) (ix1 r) = ((knot (wid th) (bin (wid th) (coord V0 r)) : ℝ) : EReal) := by
  have hb := bin_lt (wid th) (fun j => wgt_pos _ j) _ hx
  unfold res_main_v84
  exact (selected (res_main_v46 (F := Ideal) V0) (res_main_v67 (F := Ideal) V0) r ⟨bin (wid th) (coord V0 r), by omega⟩ (v67_at hv hx)).trans (v46_at hv _)

include hv hx in
theorem v98_at : (show FVec Ideal S524288 .f32 from res_main_v98 (F := Ideal) V0) (ix1 r) = ((knot (wid th) (bin (wid th) (coord V0 r) + 1) : ℝ) : EReal) := by
  have hb := bin_lt (wid th) (fun j => wgt_pos _ j) _ hx
  unfold res_main_v98
  exact (selected (res_main_v46 (F := Ideal) V0) (res_main_v69 (F := Ideal) V0) r ⟨bin (wid th) (coord V0 r) + 1, by omega⟩ (v69_at hv hx)).trans (v46_at hv _)

include hv hx in
theorem v112_at : (show FVec Ideal S524288 .f32 from res_main_v112 (F := Ideal) V0) (ix1 r) = ((knot (hei th) (bin (wid th) (coord V0 r)) : ℝ) : EReal) := by
  have hb := bin_lt (wid th) (fun j => wgt_pos _ j) _ hx
  unfold res_main_v112
  exact (selected (res_main_v50 (F := Ideal) V0) (res_main_v67 (F := Ideal) V0) r ⟨bin (wid th) (coord V0 r), by omega⟩ (v67_at hv hx)).trans (v50_at hv _)

include hv hx in
theorem v126_at : (show FVec Ideal S524288 .f32 from res_main_v126 (F := Ideal) V0) (ix1 r) = ((knot (hei th) (bin (wid th) (coord V0 r) + 1) : ℝ) : EReal) := by
  have hb := bin_lt (wid th) (fun j => wgt_pos _ j) _ hx
  unfold res_main_v126
  exact (selected (res_main_v50 (F := Ideal) V0) (res_main_v69 (F := Ideal) V0) r ⟨bin (wid th) (coord V0 r) + 1, by omega⟩ (v69_at hv hx)).trans (v50_at hv _)

include hv hx in
theorem v140_at : (show FVec Ideal S524288 .f32 from res_main_v140 (F := Ideal) V0) (ix1 r) = Spline.deriv (least : EReal) (der th) (bin (wid th) (coord V0 r)) := by
  have hb := bin_lt (wid th) (fun j => wgt_pos _ j) _ hx
  unfold res_main_v140
  exact (selected (res_main_v54 (F := Ideal) V0) (res_main_v67 (F := Ideal) V0) r ⟨bin (wid th) (coord V0 r), by omega⟩ (v67_at hv hx)).trans (v54_at hv _)

include hv hx in
theorem v154_at : (show FVec Ideal S524288 .f32 from res_main_v154 (F := Ideal) V0) (ix1 r) = Spline.deriv (least : EReal) (der th) (bin (wid th) (coord V0 r) + 1) := by
  have hb := bin_lt (wid th) (fun j => wgt_pos _ j) _ hx
  unfold res_main_v154
  exact (selected (res_main_v54 (F := Ideal) V0) (res_main_v69 (F := Ideal) V0) r ⟨bin (wid th) (coord V0 r) + 1, by omega⟩ (v69_at hv hx)).trans (v54_at hv _)

/-! ## The two results -/

/-- The reference's first result. -/
abbrev res0 (V0 : Valuation τ sig (Elt Ideal)) : FVec Ideal S1x524288 .f32 :=
  broadcastInDim S1x524288 ![1] bcast_S524288_S1x524288_1 (addf (res_main_v112 V0) (Host.divf (mulf (subf (res_main_v126 V0) (res_main_v112 V0)) (addf (mulf (res_main_v157 V0) (mulf (res_main_v160 V0) (res_main_v160 V0))) (mulf (mulf (res_main_v140 V0) (res_main_v160 V0)) (subf (broadcastInDim S524288 ![] bcast_S_S524288 (constant S_ .f32 0x3F800000#32)) (res_main_v160 V0))))) (res_main_v169 V0)))

/-- The reference's second result. -/
abbrev res1 (V0 : Valuation τ sig (Elt Ideal)) : FVec Ideal S1x524288 .f32 :=
  broadcastInDim S1x524288 ![1] bcast_S524288_S1x524288_1 (Host.divf (mulf (mulf (res_main_v157 V0) (res_main_v157 V0)) (addf (addf (mulf (res_main_v154 V0) (mulf (res_main_v160 V0) (res_main_v160 V0))) (mulf (mulf (mulf (broadcastInDim S524288 ![] bcast_S_S524288 (constant S_ .f32 0x40000000#32)) (res_main_v157 V0)) (res_main_v160 V0)) (subf (broadcastInDim S524288 ![] bcast_S_S524288 (constant S_ .f32 0x3F800000#32)) (res_main_v160 V0)))) (mulf (res_main_v140 V0) (mulf (res_main_v192 V0) (res_main_v192 V0))))) (mulf (res_main_v169 V0) (res_main_v169 V0)))

/-- The two results at a row, in the numbers selected for it. -/
theorem res_at (V0 : Valuation τ sig (Elt Ideal)) (r : Fin 524288) (xk xn yk yn d d' : EReal)
    (h84 : res_main_v84 (F := Ideal) V0 (ix1 r) = xk) (h98 : res_main_v98 (F := Ideal) V0 (ix1 r) = xn)
    (h112 : res_main_v112 (F := Ideal) V0 (ix1 r) = yk) (h126 : res_main_v126 (F := Ideal) V0 (ix1 r) = yn)
    (h140 : res_main_v140 (F := Ideal) V0 (ix1 r) = d) (h154 : res_main_v154 (F := Ideal) V0 (ix1 r) = d') :
    (res0 V0 (ix2 0 r) : EReal) = val (coord V0 r) xk xn yk yn d d' ∧ (res1 V0 (ix2 0 r) : EReal) = Spline.slope (coord V0 r) xk xn yk yn d d' := by
  have h157 : res_main_v157 (F := Ideal) V0 (ix1 r) = Ideal.div (yn - yk) (xn - xk) := by
    unfold res_main_v157
    clean_types
    pointwise []
    rw [h84, h98, h112, h126]
  have h160 : res_main_v160 (F := Ideal) V0 (ix1 r) = Ideal.div (coord V0 r - xk) (xn - xk) := by
    unfold res_main_v160
    clean_types
    pointwise []
    rw [h84, h98]
  have h169 : res_main_v169 (F := Ideal) V0 (ix1 r) = den (Ideal.div (yn - yk) (xn - xk)) (Ideal.div (coord V0 r - xk) (xn - xk)) d d' := by
    unfold res_main_v169
    clean_types
    pointwise []
    rw [h157, h160, h140, h154, ofBits_two]
    rfl
  have h192 : res_main_v192 (F := Ideal) V0 (ix1 r) = 1 - Ideal.div (coord V0 r - xk) (xn - xk) := by
    unfold res_main_v192
    clean_types
    pointwise []
    rw [h160]
  constructor
  · unfold res0
    clean_types
    pointwise []
    rw [h157, h160, h169, h112, h126, h140]
    rfl
  · unfold res1
    clean_types
    pointwise []
    rw [h157, h160, h169, h192, h140, h154, ofBits_two]
    rfl

include hv hx in
/-- The two results at a row: the transform's value and its slope there. -/
theorem res_row : (res0 V0 (ix2 0 r) : EReal) = rowVal (least : EReal) (coord V0 r) th ∧ (res1 V0 (ix2 0 r) : EReal) = rowSlope (least : EReal) (coord V0 r) th :=
  res_at V0 r _ _ _ _ _ _ (v84_at hv hx) (v98_at hv hx) (v112_at hv hx) (v126_at hv hx) (v140_at hv hx) (v154_at hv hx)

end Cert.ReferenceIdeal.Rows

end
-- ==== Proof.Equation.lean ====
/- The kernel's results and the reference's are the same arrays. -/
module

public import proofs.«01_k».proof.Proof.Domain
public import proofs.«01_k».proof.Proof.Bins

@[expose] public section

set_option maxRecDepth 16384

noncomputable section

namespace Cert.Equation

open Idealize.ShloMosaic Idealize.ShloMosaic.TcCoe Idealize.SL.Sem
open Cert.Spline Cert.KernelIdeal.Arrays Cert.ReferenceIdeal.Rows Cert.ReferenceIdeal

variable (V0 : Valuation τ sig (Elt Ideal)) (th : Fin 524288 → Fin 95 → ℝ)
  (h : Asked (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7)) th)

include h

/-- A row of the reference's results, from what is asked of its arguments. -/
theorem row (r : Fin 524288) : (res0 V0 (ix2 0 r) : EReal) = rowVal (least : EReal) (coord V0 r) (th r)
    ∧ (res1 V0 (ix2 0 r) : EReal) = rowSlope (least : EReal) (coord V0 r) (th r) :=
  res_row (fun j => (v13_at V0 r j).trans (h.eq r j)) (h.le r)

/-- The reference's first result: the transformed coordinates. -/
theorem first : res0 V0 = fun i : S1x524288.Idx => rowVal (least : EReal) (coord V0 (i 1)) (th (i 1)) := by
  funext i
  obtain ⟨a, r, rfl⟩ : ∃ (a : Fin 1) (r : Fin 524288), i = ix2 a r := ⟨i 0, i 1, funext fun a => match a with | 0 => rfl | 1 => rfl⟩
  obtain rfl : a = 0 := Subsingleton.elim _ _
  exact (row V0 th h r).1

/-- The reference's second result: the slopes. -/
theorem second : res1 V0 = fun i : S1x524288.Idx => rowSlope (least : EReal) (coord V0 (i 1)) (th (i 1)) := by
  funext i
  obtain ⟨a, r, rfl⟩ : ∃ (a : Fin 1) (r : Fin 524288), i = ix2 a r := ⟨i 0, i 1, funext fun a => match a with | 0 => rfl | 1 => rfl⟩
  obtain rfl : a = 0 := Subsingleton.elim _ _
  exact (row V0 th h r).2

end Cert.Equation

end
-- ==== Proof.lean ====
/- The proof of every claim: the three programs run and leave their arguments unchanged and their semaphore counters at
   zero; the kernel read over the reals is the kernel's own text; and, from arguments in the domain, the kernel and the
   reference end with equal results. The steps lie in the modules of proof/Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_domain
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The kernel in machine arithmetic runs. -/
theorem frame_kernel : Cert.quiescent_Kernel (hKernel := Cert.Kernel.Gen.facts) := fun m ρ _ => Cert.Kernel.Gen.frame m ρ

/-- The kernel over the reals runs. -/
theorem frame_ideal : Cert.quiescent_KernelIdeal (hKernelIdeal := Cert.KernelIdeal.Gen.facts) := fun m ρ _ => Cert.KernelIdeal.Gen.frame m ρ

/-- The kernel over the reals runs, from arguments in the domain. -/
theorem frame_ideal_domain :
    Cert.quiescent_KernelIdeal_pre_in_domain (hKernelIdeal := Cert.KernelIdeal.Gen.facts) (hPre_in_domain := Cert.Pre_in_domain.Gen.facts) :=
  fun m ρ _ => Cert.KernelIdeal.Gen.frame m ρ

/-- The reference runs: no operation of it writes an argument, and it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference runs, from arguments in the domain. -/
theorem frame_reference_domain :
    Cert.quiescent_ReferenceIdeal_pre_in_domain (hReferenceIdeal := Cert.ReferenceIdeal.Gen.facts) (hPre_in_domain := Cert.Pre_in_domain.Gen.facts) :=
  fun m ρ _ => frame_reference m ρ trivial

/-- From arguments in the domain, the kernel over the reals and the reference end with equal results. -/
theorem equal_results : Cert.algebraic_KernelIdeal_ReferenceIdeal_pre_in_domain (hKernelIdeal := Cert.KernelIdeal.Gen.facts)
    (hReferenceIdeal := Cert.ReferenceIdeal.Gen.facts) (hPre_in_domain := Cert.Pre_in_domain.Gen.facts) := by
  intro m ρ m' ρ' hpre hsame
  have hq : ∀ c : Dev Cert.KernelIdeal.nD,
      Cert.ReferenceIdeal.Rows.res0 (StableHlo.launchContents m' c) = (Cert.KernelIdeal.Gen.dats m 0 c).arrAt 5 Cert.KernelIdeal.cfg0.N
      ∧ Cert.ReferenceIdeal.Rows.res1 (StableHlo.launchContents m' c) = (Cert.KernelIdeal.Gen.dats m 0 c).arrAt 6 Cert.KernelIdeal.cfg0.N := by
    intro c
    obtain ⟨th, h⟩ := Cert.Domain.asked _ _ _ _ _ _ _ _ (hpre c)
    obtain ⟨e0, e1, e2, e3, e4, e5, e6, e7⟩ := hsame c
    have h' := h
    rw [← e0, ← e1, ← e2, ← e3, ← e4, ← e5, ← e6, ← e7] at h'
    refine ⟨(Cert.Equation.first (StableHlo.launchContents m' c) th h').trans (Eq.trans ?_ (Cert.KernelIdeal.Arrays.final5 m c th h).symm),
      (Cert.Equation.second (StableHlo.launchContents m' c) th h').trans (Eq.trans ?_ (Cert.KernelIdeal.Arrays.final6 m c th h).symm)⟩
    · funext i
      exact congrArg (fun X : FVec Ideal Cert.KernelIdeal.S524288x1 .f32 => Cert.Spline.rowVal (Cert.Spline.least : EReal) (X (ix2 (i 1) 0)) (th (i 1))) e0
    · funext i
      exact congrArg (fun X : FVec Ideal Cert.KernelIdeal.S524288x1 .f32 => Cert.Spline.rowSlope (Cert.Spline.least : EReal) (X (ix2 (i 1) 0)) (th (i 1))) e0
  exact ⟨fun c => (Cert.KernelIdeal.Gen.dats m 0 c).arrAt 5 Cert.KernelIdeal.cfg0.N, fun c => (Cert.KernelIdeal.Gen.dats m 0 c).arrAt 6 Cert.KernelIdeal.cfg0.N,
    Cert.KernelIdeal.Value.run_blocks m ρ,
    (θ_run Cert.ReferenceIdeal.defs _ _).mono (fun r h c => ⟨(h c).1.trans (hq c).1, (h c).2.1.trans (hq c).2, (h c).2.2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_in_domain.Gen.facts,
    frame_kernel, frame_ideal, frame_ideal_domain, frame_reference, frame_reference_domain, trivial, equal_results⟩

end Cert.Proof

end
